-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x2048x1024 : Shape := ⟨3, ![4, 2048, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4x2048x1024 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 1024#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S4x2048x1024 : Shape := ⟨3, ![4, 2048, 1024]⟩
abbrev S1024 : Shape := ⟨1, ![1024]⟩
abbrev S8388608 : Shape := ⟨1, ![8388608]⟩
abbrev S16384 : Shape := ⟨1, ![16384]⟩
abbrev S_ : Shape := ⟨0, ![]⟩
abbrev S16 : Shape := ⟨1, ![16]⟩

abbrev nBuf : Table → Nat
  | .hbm => 5
  | .local .scVector .vmem => 5
  | _ => 0

abbrev bufTy : (tb : Table) → Fin (nBuf tb) → BufTy
  | .hbm, ⟨0, _⟩ => ⟨S4x2048x1024, .f32⟩
  | .hbm, ⟨1, _⟩ => ⟨S1024, .i32⟩
  | .hbm, ⟨2, _⟩ => ⟨S8388608, .f32⟩
  | .hbm, ⟨3, _⟩ => ⟨S8388608, .f32⟩
  | .hbm, ⟨4, _⟩ => ⟨S4x2048x1024, .f32⟩
  | .local .scVector .vmem, ⟨0, _⟩ => ⟨S1024, .i32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | _, _ => ⟨S4x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c1024_i32 : BitVec 32 := 1024#32
  let v3 : BitVec 32 := Scalar.muli v2 c1024_i32
  let v4 : BitVec 32 := Scalar.addi v3 c0_i32
  ![v4.toNat]
@[reducible] def k0_t1_loop : Scf.Loop 32 :=
  let c0_i32_1 : BitVec 32 := 0#32
  let c64_i32 : BitVec 32 := 64#32
  let v13 : BitVec 32 := Scalar.addi c0_i32_1 c64_i32
  let c1_i32 : BitVec 32 := 1#32
  ⟨c0_i32_1, v13, c1_i32⟩
def k0_off2 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk1 (v218 : IVec S16 32) : Prop :=
  (∀ a x, ((![v218] : Fin 1 → IVec S16 32) a x).toNat < S16384.size a)
theorem k0_idx1_inb : ∀ (v218 : IVec S16 32) (k0_hw1 : k0_chk1 v218), ∀ a x, ((![v218] : Fin 1 → IVec S16 32) a x).toNat < S16384.size a := fun v218 k0_hw1 => k0_hw1
def k0_off3 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk2 (v225 : IVec S16 32) : Prop :=
  (∀ a x, ((![v225] : Fin 1 → IVec S16 32) a x).toNat < S16384.size a)
theorem k0_idx2_inb : ∀ (v225 : IVec S16 32) (k0_hw2 : k0_chk2 v225), ∀ a x, ((![v225] : Fin 1 → IVec S16 32) a x).toNat < S16384.size a := fun v225 k0_hw2 => k0_hw2
def k0_off4 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk3 (v232 : IVec S16 32) : Prop :=
  (∀ a x, ((![v232] : Fin 1 → IVec S16 32) a x).toNat < S16384.size a)
theorem k0_idx3_inb : ∀ (v232 : IVec S16 32) (k0_hw3 : k0_chk3 v232), ∀ a x, ((![v232] : Fin 1 → IVec S16 32) a x).toNat < S16384.size a := fun v232 k0_hw3 => k0_hw3
def k0_off5 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk4 (v239 : IVec S16 32) : Prop :=
  (∀ a x, ((![v239] : Fin 1 → IVec S16 32) a x).toNat < S16384.size a)
theorem k0_idx4_inb : ∀ (v239 : IVec S16 32) (k0_hw4 : k0_chk4 v239), ∀ a x, ((![v239] : Fin 1 → IVec S16 32) a x).toNat < S16384.size a := fun v239 k0_hw4 => k0_hw4
def k0_off6 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk5 (v246 : IVec S16 32) : Prop :=
  (∀ a x, ((![v246] : Fin 1 → IVec S16 32) a x).toNat < S16384.size a)
theorem k0_idx5_inb : ∀ (v246 : IVec S16 32) (k0_hw5 : k0_chk5 v246), ∀ a x, ((![v246] : Fin 1 → IVec S16 32) a x).toNat < S16384.size a := fun v246 k0_hw5 => k0_hw5
def k0_off7 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk6 (v253 : IVec S16 32) : Prop :=
  (∀ a x, ((![v253] : Fin 1 → IVec S16 32) a x).toNat < S16384.size a)
theorem k0_idx6_inb : ∀ (v253 : IVec S16 32) (k0_hw6 : k0_chk6 v253), ∀ a x, ((![v253] : Fin 1 → IVec S16 32) a x).toNat < S16384.size a := fun v253 k0_hw6 => k0_hw6
def k0_off8 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk7 (v260 : IVec S16 32) : Prop :=
  (∀ a x, ((![v260] : Fin 1 → IVec S16 32) a x).toNat < S16384.size a)
theorem k0_idx7_inb : ∀ (v260 : IVec S16 32) (k0_hw7 : k0_chk7 v260), ∀ a x, ((![v260] : Fin 1 → IVec S16 32) a x).toNat < S16384.size a := fun v260 k0_hw7 => k0_hw7
def k0_off9 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk8 (v267 : IVec S16 32) : Prop :=
  (∀ a x, ((![v267] : Fin 1 → IVec S16 32) a x).toNat < S16384.size a)
theorem k0_idx8_inb : ∀ (v267 : IVec S16 32) (k0_hw8 : k0_chk8 v267), ∀ a x, ((![v267] : Fin 1 → IVec S16 32) a x).toNat < S16384.size a := fun v267 k0_hw8 => k0_hw8
def k0_off10 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk9 (v274 : IVec S16 32) : Prop :=
  (∀ a x, ((![v274] : Fin 1 → IVec S16 32) a x).toNat < S16384.size a)
theorem k0_idx9_inb : ∀ (v274 : IVec S16 32) (k0_hw9 : k0_chk9 v274), ∀ a x, ((![v274] : Fin 1 → IVec S16 32) a x).toNat < S16384.size a := fun v274 k0_hw9 => k0_hw9
def k0_off11 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk10 (v281 : IVec S16 32) : Prop :=
  (∀ a x, ((![v281] : Fin 1 → IVec S16 32) a x).toNat < S16384.size a)
theorem k0_idx10_inb : ∀ (v281 : IVec S16 32) (k0_hw10 : k0_chk10 v281), ∀ a x, ((![v281] : Fin 1 → IVec S16 32) a x).toNat < S16384.size a := fun v281 k0_hw10 => k0_hw10
def k0_off12 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk11 (v288 : IVec S16 32) : Prop :=
  (∀ a x, ((![v288] : Fin 1 → IVec S16 32) a x).toNat < S16384.size a)
theorem k0_idx11_inb : ∀ (v288 : IVec S16 32) (k0_hw11 : k0_chk11 v288), ∀ a x, ((![v288] : Fin 1 → IVec S16 32) a x).toNat < S16384.size a := fun v288 k0_hw11 => k0_hw11
def k0_off13 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk12 (v295 : IVec S16 32) : Prop :=
  (∀ a x, ((![v295] : Fin 1 → IVec S16 32) a x).toNat < S16384.size a)
theorem k0_idx12_inb : ∀ (v295 : IVec S16 32) (k0_hw12 : k0_chk12 v295), ∀ a x, ((![v295] : Fin 1 → IVec S16 32) a x).toNat < S16384.size a := fun v295 k0_hw12 => k0_hw12
def k0_off14 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk13 (v302 : IVec S16 32) : Prop :=
  (∀ a x, ((![v302] : Fin 1 → IVec S16 32) a x).toNat < S16384.size a)
theorem k0_idx13_inb : ∀ (v302 : IVec S16 32) (k0_hw13 : k0_chk13 v302), ∀ a x, ((![v302] : Fin 1 → IVec S16 32) a x).toNat < S16384.size a := fun v302 k0_hw13 => k0_hw13
def k0_off15 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk14 (v309 : IVec S16 32) : Prop :=
  (∀ a x, ((![v309] : Fin 1 → IVec S16 32) a x).toNat < S16384.size a)
theorem k0_idx14_inb : ∀ (v309 : IVec S16 32) (k0_hw14 : k0_chk14 v309), ∀ a x, ((![v309] : Fin 1 → IVec S16 32) a x).toNat < S16384.size a := fun v309 k0_hw14 => k0_hw14
def k0_off16 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk15 (v316 : IVec S16 32) : Prop :=
  (∀ a x, ((![v316] : Fin 1 → IVec S16 32) a x).toNat < S16384.size a)
theorem k0_idx15_inb : ∀ (v316 : IVec S16 32) (k0_hw15 : k0_chk15 v316), ∀ a x, ((![v316] : Fin 1 → IVec S16 32) a x).toNat < S16384.size a := fun v316 k0_hw15 => k0_hw15
def k0_off17 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk16 (v323 : IVec S16 32) : Prop :=
  (∀ a x, ((![v323] : Fin 1 → IVec S16 32) a x).toNat < S16384.size a)
theorem k0_idx16_inb : ∀ (v323 : IVec S16 32) (k0_hw16 : k0_chk16 v323), ∀ a x, ((![v323] : Fin 1 → IVec S16 32) a x).toNat < S16384.size a := fun v323 k0_hw16 => k0_hw16
def k0_off18 (k0_t1 : Fin k0_t1_loop.trips) : Fin 1 → Nat :=
  let c0_i32_111 : BitVec 32 := 0#32
  let c0_i32_1 : BitVec 32 := 0#32
  let c1_i32 : BitVec 32 := 1#32
  let arg14 : BitVec 32 := Scf.iv c0_i32_1 c1_i32 k0_t1
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t2_loop : Scf.Loop 32 :=
  let c0_i32_5 : BitVec 32 := 0#32
  let c64_i32_6 : BitVec 32 := 64#32
  let v23 : BitVec 32 := Scalar.addi c0_i32_5 c64_i32_6
  let c1_i32_7 : BitVec 32 := 1#32
  ⟨c0_i32_5, v23, c1_i32_7⟩
def k0_off19 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk17 (v218 : IVec S16 32) : Prop :=
  (∀ a x, ((![v218] : Fin 1 → IVec S16 32) a x).toNat < S16384.size a)
theorem k0_idx17_inb : ∀ (v218 : IVec S16 32) (k0_hw17 : k0_chk17 v218), ∀ a x, ((![v218] : Fin 1 → IVec S16 32) a x).toNat < S16384.size a := fun v218 k0_hw17 => k0_hw17
def k0_off20 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk18 (v225 : IVec S16 32) : Prop :=
  (∀ a x, ((![v225] : Fin 1 → IVec S16 32) a x).toNat < S16384.size a)
theorem k0_idx18_inb : ∀ (v225 : IVec S16 32) (k0_hw18 : k0_chk18 v225), ∀ a x, ((![v225] : Fin 1 → IVec S16 32) a x).toNat < S16384.size a := fun v225 k0_hw18 => k0_hw18
def k0_off21 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk19 (v232 : IVec S16 32) : Prop :=
  (∀ a x, ((![v232] : Fin 1 → IVec S16 32) a x).toNat < S16384.size a)
theorem k0_idx19_inb : ∀ (v232 : IVec S16 32) (k0_hw19 : k0_chk19 v232), ∀ a x, ((![v232] : Fin 1 → IVec S16 32) a x).toNat < S16384.size a := fun v232 k0_hw19 => k0_hw19
def k0_off22 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk20 (v239 : IVec S16 32) : Prop :=
  (∀ a x, ((![v239] : Fin 1 → IVec S16 32) a x).toNat < S16384.size a)
theorem k0_idx20_inb : ∀ (v239 : IVec S16 32) (k0_hw20 : k0_chk20 v239), ∀ a x, ((![v239] : Fin 1 → IVec S16 32) a x).toNat < S16384.size a := fun v239 k0_hw20 => k0_hw20
def k0_off23 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk21 (v246 : IVec S16 32) : Prop :=
  (∀ a x, ((![v246] : Fin 1 → IVec S16 32) a x).toNat < S16384.size a)
theorem k0_idx21_inb : ∀ (v246 : IVec S16 32) (k0_hw21 : k0_chk21 v246), ∀ a x, ((![v246] : Fin 1 → IVec S16 32) a x).toNat < S16384.size a := fun v246 k0_hw21 => k0_hw21
def k0_off24 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk22 (v253 : IVec S16 32) : Prop :=
  (∀ a x, ((![v253] : Fin 1 → IVec S16 32) a x).toNat < S16384.size a)
theorem k0_idx22_inb : ∀ (v253 : IVec S16 32) (k0_hw22 : k0_chk22 v253), ∀ a x, ((![v253] : Fin 1 → IVec S16 32) a x).toNat < S16384.size a := fun v253 k0_hw22 => k0_hw22
def k0_off25 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk23 (v260 : IVec S16 32) : Prop :=
  (∀ a x, ((![v260] : Fin 1 → IVec S16 32) a x).toNat < S16384.size a)
theorem k0_idx23_inb : ∀ (v260 : IVec S16 32) (k0_hw23 : k0_chk23 v260), ∀ a x, ((![v260] : Fin 1 → IVec S16 32) a x).toNat < S16384.size a := fun v260 k0_hw23 => k0_hw23
def k0_off26 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk24 (v267 : IVec S16 32) : Prop :=
  (∀ a x, ((![v267] : Fin 1 → IVec S16 32) a x).toNat < S16384.size a)
theorem k0_idx24_inb : ∀ (v267 : IVec S16 32) (k0_hw24 : k0_chk24 v267), ∀ a x, ((![v267] : Fin 1 → IVec S16 32) a x).toNat < S16384.size a := fun v267 k0_hw24 => k0_hw24
def k0_off27 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk25 (v274 : IVec S16 32) : Prop :=
  (∀ a x, ((![v274] : Fin 1 → IVec S16 32) a x).toNat < S16384.size a)
theorem k0_idx25_inb : ∀ (v274 : IVec S16 32) (k0_hw25 : k0_chk25 v274), ∀ a x, ((![v274] : Fin 1 → IVec S16 32) a x).toNat < S16384.size a := fun v274 k0_hw25 => k0_hw25
def k0_off28 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk26 (v281 : IVec S16 32) : Prop :=
  (∀ a x, ((![v281] : Fin 1 → IVec S16 32) a x).toNat < S16384.size a)
theorem k0_idx26_inb : ∀ (v281 : IVec S16 32) (k0_hw26 : k0_chk26 v281), ∀ a x, ((![v281] : Fin 1 → IVec S16 32) a x).toNat < S16384.size a := fun v281 k0_hw26 => k0_hw26
def k0_off29 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk27 (v288 : IVec S16 32) : Prop :=
  (∀ a x, ((![v288] : Fin 1 → IVec S16 32) a x).toNat < S16384.size a)
theorem k0_idx27_inb : ∀ (v288 : IVec S16 32) (k0_hw27 : k0_chk27 v288), ∀ a x, ((![v288] : Fin 1 → IVec S16 32) a x).toNat < S16384.size a := fun v288 k0_hw27 => k0_hw27
def k0_off30 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk28 (v295 : IVec S16 32) : Prop :=
  (∀ a x, ((![v295] : Fin 1 → IVec S16 32) a x).toNat < S16384.size a)
theorem k0_idx28_inb : ∀ (v295 : IVec S16 32) (k0_hw28 : k0_chk28 v295), ∀ a x, ((![v295] : Fin 1 → IVec S16 32) a x).toNat < S16384.size a := fun v295 k0_hw28 => k0_hw28
def k0_off31 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk29 (v302 : IVec S16 32) : Prop :=
  (∀ a x, ((![v302] : Fin 1 → IVec S16 32) a x).toNat < S16384.size a)
theorem k0_idx29_inb : ∀ (v302 : IVec S16 32) (k0_hw29 : k0_chk29 v302), ∀ a x, ((![v302] : Fin 1 → IVec S16 32) a x).toNat < S16384.size a := fun v302 k0_hw29 => k0_hw29
def k0_off32 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk30 (v309 : IVec S16 32) : Prop :=
  (∀ a x, ((![v309] : Fin 1 → IVec S16 32) a x).toNat < S16384.size a)
theorem k0_idx30_inb : ∀ (v309 : IVec S16 32) (k0_hw30 : k0_chk30 v309), ∀ a x, ((![v309] : Fin 1 → IVec S16 32) a x).toNat < S16384.size a := fun v309 k0_hw30 => k0_hw30
def k0_off33 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk31 (v316 : IVec S16 32) : Prop :=
  (∀ a x, ((![v316] : Fin 1 → IVec S16 32) a x).toNat < S16384.size a)
theorem k0_idx31_inb : ∀ (v316 : IVec S16 32) (k0_hw31 : k0_chk31 v316), ∀ a x, ((![v316] : Fin 1 → IVec S16 32) a x).toNat < S16384.size a := fun v316 k0_hw31 => k0_hw31
def k0_off34 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk32 (v323 : IVec S16 32) : Prop :=
  (∀ a x, ((![v323] : Fin 1 → IVec S16 32) a x).toNat < S16384.size a)
theorem k0_idx32_inb : ∀ (v323 : IVec S16 32) (k0_hw32 : k0_chk32 v323), ∀ a x, ((![v323] : Fin 1 → IVec S16 32) a x).toNat < S16384.size a := fun v323 k0_hw32 => k0_hw32
def k0_off35 (k0_t2 : Fin k0_t2_loop.trips) : Fin 1 → Nat :=
  let c0_i32_111 : BitVec 32 := 0#32
  let c0_i32_5 : BitVec 32 := 0#32
  let c1_i32_7 : BitVec 32 := 1#32
  let arg14 : BitVec 32 := Scf.iv c0_i32_5 c1_i32_7 k0_t2
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t3_loop : Scf.Loop 32 :=
  let c0_i32_12 : BitVec 32 := 0#32
  let c64_i32_13 : BitVec 32 := 64#32
  let v36 : BitVec 32 := Scalar.addi c0_i32_12 c64_i32_13
  let c1_i32_14 : BitVec 32 := 1#32
  ⟨c0_i32_12, v36, c1_i32_14⟩
def k0_off36 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk33 (v218 : IVec S16 32) : Prop :=
  (∀ a x, ((![v218] : Fin 1 → IVec S16 32) a x).toNat < S16384.size a)
theorem k0_idx33_inb : ∀ (v218 : IVec S16 32) (k0_hw33 : k0_chk33 v218), ∀ a x, ((![v218] : Fin 1 → IVec S16 32) a x).toNat < S16384.size a := fun v218 k0_hw33 => k0_hw33
def k0_off37 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk34 (v225 : IVec S16 32) : Prop :=
  (∀ a x, ((![v225] : Fin 1 → IVec S16 32) a x).toNat < S16384.size a)
theorem k0_idx34_inb : ∀ (v225 : IVec S16 32) (k0_hw34 : k0_chk34 v225), ∀ a x, ((![v225] : Fin 1 → IVec S16 32) a x).toNat < S16384.size a := fun v225 k0_hw34 => k0_hw34
def k0_off38 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk35 (v232 : IVec S16 32) : Prop :=
  (∀ a x, ((![v232] : Fin 1 → IVec S16 32) a x).toNat < S16384.size a)
theorem k0_idx35_inb : ∀ (v232 : IVec S16 32) (k0_hw35 : k0_chk35 v232), ∀ a x, ((![v232] : Fin 1 → IVec S16 32) a x).toNat < S16384.size a := fun v232 k0_hw35 => k0_hw35
def k0_off39 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk36 (v239 : IVec S16 32) : Prop :=
  (∀ a x, ((![v239] : Fin 1 → IVec S16 32) a x).toNat < S16384.size a)
theorem k0_idx36_inb : ∀ (v239 : IVec S16 32) (k0_hw36 : k0_chk36 v239), ∀ a x, ((![v239] : Fin 1 → IVec S16 32) a x).toNat < S16384.size a := fun v239 k0_hw36 => k0_hw36
def k0_off40 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk37 (v246 : IVec S16 32) : Prop :=
  (∀ a x, ((![v246] : Fin 1 → IVec S16 32) a x).toNat < S16384.size a)
theorem k0_idx37_inb : ∀ (v246 : IVec S16 32) (k0_hw37 : k0_chk37 v246), ∀ a x, ((![v246] : Fin 1 → IVec S16 32) a x).toNat < S16384.size a := fun v246 k0_hw37 => k0_hw37
def k0_off41 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk38 (v253 : IVec S16 32) : Prop :=
  (∀ a x, ((![v253] : Fin 1 → IVec S16 32) a x).toNat < S16384.size a)
theorem k0_idx38_inb : ∀ (v253 : IVec S16 32) (k0_hw38 : k0_chk38 v253), ∀ a x, ((![v253] : Fin 1 → IVec S16 32) a x).toNat < S16384.size a := fun v253 k0_hw38 => k0_hw38
def k0_off42 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk39 (v260 : IVec S16 32) : Prop :=
  (∀ a x, ((![v260] : Fin 1 → IVec S16 32) a x).toNat < S16384.size a)
theorem k0_idx39_inb : ∀ (v260 : IVec S16 32) (k0_hw39 : k0_chk39 v260), ∀ a x, ((![v260] : Fin 1 → IVec S16 32) a x).toNat < S16384.size a := fun v260 k0_hw39 => k0_hw39
def k0_off43 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk40 (v267 : IVec S16 32) : Prop :=
  (∀ a x, ((![v267] : Fin 1 → IVec S16 32) a x).toNat < S16384.size a)
theorem k0_idx40_inb : ∀ (v267 : IVec S16 32) (k0_hw40 : k0_chk40 v267), ∀ a x, ((![v267] : Fin 1 → IVec S16 32) a x).toNat < S16384.size a := fun v267 k0_hw40 => k0_hw40
def k0_off44 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk41 (v274 : IVec S16 32) : Prop :=
  (∀ a x, ((![v274] : Fin 1 → IVec S16 32) a x).toNat < S16384.size a)
theorem k0_idx41_inb : ∀ (v274 : IVec S16 32) (k0_hw41 : k0_chk41 v274), ∀ a x, ((![v274] : Fin 1 → IVec S16 32) a x).toNat < S16384.size a := fun v274 k0_hw41 => k0_hw41
def k0_off45 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk42 (v281 : IVec S16 32) : Prop :=
  (∀ a x, ((![v281] : Fin 1 → IVec S16 32) a x).toNat < S16384.size a)
theorem k0_idx42_inb : ∀ (v281 : IVec S16 32) (k0_hw42 : k0_chk42 v281), ∀ a x, ((![v281] : Fin 1 → IVec S16 32) a x).toNat < S16384.size a := fun v281 k0_hw42 => k0_hw42
def k0_off46 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk43 (v288 : IVec S16 32) : Prop :=
  (∀ a x, ((![v288] : Fin 1 → IVec S16 32) a x).toNat < S16384.size a)
theorem k0_idx43_inb : ∀ (v288 : IVec S16 32) (k0_hw43 : k0_chk43 v288), ∀ a x, ((![v288] : Fin 1 → IVec S16 32) a x).toNat < S16384.size a := fun v288 k0_hw43 => k0_hw43
def k0_off47 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk44 (v295 : IVec S16 32) : Prop :=
  (∀ a x, ((![v295] : Fin 1 → IVec S16 32) a x).toNat < S16384.size a)
theorem k0_idx44_inb : ∀ (v295 : IVec S16 32) (k0_hw44 : k0_chk44 v295), ∀ a x, ((![v295] : Fin 1 → IVec S16 32) a x).toNat < S16384.size a := fun v295 k0_hw44 => k0_hw44
def k0_off48 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk45 (v302 : IVec S16 32) : Prop :=
  (∀ a x, ((![v302] : Fin 1 → IVec S16 32) a x).toNat < S16384.size a)
theorem k0_idx45_inb : ∀ (v302 : IVec S16 32) (k0_hw45 : k0_chk45 v302), ∀ a x, ((![v302] : Fin 1 → IVec S16 32) a x).toNat < S16384.size a := fun v302 k0_hw45 => k0_hw45
def k0_off49 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk46 (v309 : IVec S16 32) : Prop :=
  (∀ a x, ((![v309] : Fin 1 → IVec S16 32) a x).toNat < S16384.size a)
theorem k0_idx46_inb : ∀ (v309 : IVec S16 32) (k0_hw46 : k0_chk46 v309), ∀ a x, ((![v309] : Fin 1 → IVec S16 32) a x).toNat < S16384.size a := fun v309 k0_hw46 => k0_hw46
def k0_off50 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk47 (v316 : IVec S16 32) : Prop :=
  (∀ a x, ((![v316] : Fin 1 → IVec S16 32) a x).toNat < S16384.size a)
theorem k0_idx47_inb : ∀ (v316 : IVec S16 32) (k0_hw47 : k0_chk47 v316), ∀ a x, ((![v316] : Fin 1 → IVec S16 32) a x).toNat < S16384.size a := fun v316 k0_hw47 => k0_hw47
def k0_off51 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk48 (v323 : IVec S16 32) : Prop :=
  (∀ a x, ((![v323] : Fin 1 → IVec S16 32) a x).toNat < S16384.size a)
theorem k0_idx48_inb : ∀ (v323 : IVec S16 32) (k0_hw48 : k0_chk48 v323), ∀ a x, ((![v323] : Fin 1 → IVec S16 32) a x).toNat < S16384.size a := fun v323 k0_hw48 => k0_hw48
def k0_off52 (k0_t3 : Fin k0_t3_loop.trips) : Fin 1 → Nat :=
  let c0_i32_111 : BitVec 32 := 0#32
  let c0_i32_12 : BitVec 32 := 0#32
  let c1_i32_14 : BitVec 32 := 1#32
  let arg14 : BitVec 32 := Scf.iv c0_i32_12 c1_i32_14 k0_t3
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t4_loop : Scf.Loop 32 :=
  let c0_i32_19 : BitVec 32 := 0#32
  let c64_i32_20 : BitVec 32 := 64#32
  let v49 : BitVec 32 := Scalar.addi c0_i32_19 c64_i32_20
  let c1_i32_21 : BitVec 32 := 1#32
  ⟨c0_i32_19, v49, c1_i32_21⟩
def k0_off53 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk49 (v218 : IVec S16 32) : Prop :=
  (∀ a x, ((![v218] : Fin 1 → IVec S16 32) a x).toNat < S16384.size a)
theorem k0_idx49_inb : ∀ (v218 : IVec S16 32) (k0_hw49 : k0_chk49 v218), ∀ a x, ((![v218] : Fin 1 → IVec S16 32) a x).toNat < S16384.size a := fun v218 k0_hw49 => k0_hw49
def k0_off54 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk50 (v225 : IVec S16 32) : Prop :=
  (∀ a x, ((![v225] : Fin 1 → IVec S16 32) a x).toNat < S16384.size a)
theorem k0_idx50_inb : ∀ (v225 : IVec S16 32) (k0_hw50 : k0_chk50 v225), ∀ a x, ((![v225] : Fin 1 → IVec S16 32) a x).toNat < S16384.size a := fun v225 k0_hw50 => k0_hw50
def k0_off55 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk51 (v232 : IVec S16 32) : Prop :=
  (∀ a x, ((![v232] : Fin 1 → IVec S16 32) a x).toNat < S16384.size a)
theorem k0_idx51_inb : ∀ (v232 : IVec S16 32) (k0_hw51 : k0_chk51 v232), ∀ a x, ((![v232] : Fin 1 → IVec S16 32) a x).toNat < S16384.size a := fun v232 k0_hw51 => k0_hw51
def k0_off56 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk52 (v239 : IVec S16 32) : Prop :=
  (∀ a x, ((![v239] : Fin 1 → IVec S16 32) a x).toNat < S16384.size a)
theorem k0_idx52_inb : ∀ (v239 : IVec S16 32) (k0_hw52 : k0_chk52 v239), ∀ a x, ((![v239] : Fin 1 → IVec S16 32) a x).toNat < S16384.size a := fun v239 k0_hw52 => k0_hw52
def k0_off57 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk53 (v246 : IVec S16 32) : Prop :=
  (∀ a x, ((![v246] : Fin 1 → IVec S16 32) a x).toNat < S16384.size a)
theorem k0_idx53_inb : ∀ (v246 : IVec S16 32) (k0_hw53 : k0_chk53 v246), ∀ a x, ((![v246] : Fin 1 → IVec S16 32) a x).toNat < S16384.size a := fun v246 k0_hw53 => k0_hw53
def k0_off58 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk54 (v253 : IVec S16 32) : Prop :=
  (∀ a x, ((![v253] : Fin 1 → IVec S16 32) a x).toNat < S16384.size a)
theorem k0_idx54_inb : ∀ (v253 : IVec S16 32) (k0_hw54 : k0_chk54 v253), ∀ a x, ((![v253] : Fin 1 → IVec S16 32) a x).toNat < S16384.size a := fun v253 k0_hw54 => k0_hw54
def k0_off59 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk55 (v260 : IVec S16 32) : Prop :=
  (∀ a x, ((![v260] : Fin 1 → IVec S16 32) a x).toNat < S16384.size a)
theorem k0_idx55_inb : ∀ (v260 : IVec S16 32) (k0_hw55 : k0_chk55 v260), ∀ a x, ((![v260] : Fin 1 → IVec S16 32) a x).toNat < S16384.size a := fun v260 k0_hw55 => k0_hw55
def k0_off60 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk56 (v267 : IVec S16 32) : Prop :=
  (∀ a x, ((![v267] : Fin 1 → IVec S16 32) a x).toNat < S16384.size a)
theorem k0_idx56_inb : ∀ (v267 : IVec S16 32) (k0_hw56 : k0_chk56 v267), ∀ a x, ((![v267] : Fin 1 → IVec S16 32) a x).toNat < S16384.size a := fun v267 k0_hw56 => k0_hw56
def k0_off61 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk57 (v274 : IVec S16 32) : Prop :=
  (∀ a x, ((![v274] : Fin 1 → IVec S16 32) a x).toNat < S16384.size a)
theorem k0_idx57_inb : ∀ (v274 : IVec S16 32) (k0_hw57 : k0_chk57 v274), ∀ a x, ((![v274] : Fin 1 → IVec S16 32) a x).toNat < S16384.size a := fun v274 k0_hw57 => k0_hw57
def k0_off62 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk58 (v281 : IVec S16 32) : Prop :=
  (∀ a x, ((![v281] : Fin 1 → IVec S16 32) a x).toNat < S16384.size a)
theorem k0_idx58_inb : ∀ (v281 : IVec S16 32) (k0_hw58 : k0_chk58 v281), ∀ a x, ((![v281] : Fin 1 → IVec S16 32) a x).toNat < S16384.size a := fun v281 k0_hw58 => k0_hw58
def k0_off63 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk59 (v288 : IVec S16 32) : Prop :=
  (∀ a x, ((![v288] : Fin 1 → IVec S16 32) a x).toNat < S16384.size a)
theorem k0_idx59_inb : ∀ (v288 : IVec S16 32) (k0_hw59 : k0_chk59 v288), ∀ a x, ((![v288] : Fin 1 → IVec S16 32) a x).toNat < S16384.size a := fun v288 k0_hw59 => k0_hw59
def k0_off64 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk60 (v295 : IVec S16 32) : Prop :=
  (∀ a x, ((![v295] : Fin 1 → IVec S16 32) a x).toNat < S16384.size a)
theorem k0_idx60_inb : ∀ (v295 : IVec S16 32) (k0_hw60 : k0_chk60 v295), ∀ a x, ((![v295] : Fin 1 → IVec S16 32) a x).toNat < S16384.size a := fun v295 k0_hw60 => k0_hw60
def k0_off65 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk61 (v302 : IVec S16 32) : Prop :=
  (∀ a x, ((![v302] : Fin 1 → IVec S16 32) a x).toNat < S16384.size a)
theorem k0_idx61_inb : ∀ (v302 : IVec S16 32) (k0_hw61 : k0_chk61 v302), ∀ a x, ((![v302] : Fin 1 → IVec S16 32) a x).toNat < S16384.size a := fun v302 k0_hw61 => k0_hw61
def k0_off66 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk62 (v309 : IVec S16 32) : Prop :=
  (∀ a x, ((![v309] : Fin 1 → IVec S16 32) a x).toNat < S16384.size a)
theorem k0_idx62_inb : ∀ (v309 : IVec S16 32) (k0_hw62 : k0_chk62 v309), ∀ a x, ((![v309] : Fin 1 → IVec S16 32) a x).toNat < S16384.size a := fun v309 k0_hw62 => k0_hw62
def k0_off67 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk63 (v316 : IVec S16 32) : Prop :=
  (∀ a x, ((![v316] : Fin 1 → IVec S16 32) a x).toNat < S16384.size a)
theorem k0_idx63_inb : ∀ (v316 : IVec S16 32) (k0_hw63 : k0_chk63 v316), ∀ a x, ((![v316] : Fin 1 → IVec S16 32) a x).toNat < S16384.size a := fun v316 k0_hw63 => k0_hw63
def k0_off68 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk64 (v323 : IVec S16 32) : Prop :=
  (∀ a x, ((![v323] : Fin 1 → IVec S16 32) a x).toNat < S16384.size a)
theorem k0_idx64_inb : ∀ (v323 : IVec S16 32) (k0_hw64 : k0_chk64 v323), ∀ a x, ((![v323] : Fin 1 → IVec S16 32) a x).toNat < S16384.size a := fun v323 k0_hw64 => k0_hw64
def k0_off69 (k0_t4 : Fin k0_t4_loop.trips) : Fin 1 → Nat :=
  let c0_i32_111 : BitVec 32 := 0#32
  let c0_i32_19 : BitVec 32 := 0#32
  let c1_i32_21 : BitVec 32 := 1#32
  let arg14 : BitVec 32 := Scf.iv c0_i32_19 c1_i32_21 k0_t4
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t5_loop : Scf.Loop 32 :=
  let c0_i32_26 : BitVec 32 := 0#32
  let c64_i32_27 : BitVec 32 := 64#32
  let v62 : BitVec 32 := Scalar.addi c0_i32_26 c64_i32_27
  let c1_i32_28 : BitVec 32 := 1#32
  ⟨c0_i32_26, v62, c1_i32_28⟩
def k0_off70 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk65 (v218 : IVec S16 32) : Prop :=
  (∀ a x, ((![v218] : Fin 1 → IVec S16 32) a x).toNat < S16384.size a)
theorem k0_idx65_inb : ∀ (v218 : IVec S16 32) (k0_hw65 : k0_chk65 v218), ∀ a x, ((![v218] : Fin 1 → IVec S16 32) a x).toNat < S16384.size a := fun v218 k0_hw65 => k0_hw65
def k0_off71 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk66 (v225 : IVec S16 32) : Prop :=
  (∀ a x, ((![v225] : Fin 1 → IVec S16 32) a x).toNat < S16384.size a)
theorem k0_idx66_inb : ∀ (v225 : IVec S16 32) (k0_hw66 : k0_chk66 v225), ∀ a x, ((![v225] : Fin 1 → IVec S16 32) a x).toNat < S16384.size a := fun v225 k0_hw66 => k0_hw66
def k0_off72 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk67 (v232 : IVec S16 32) : Prop :=
  (∀ a x, ((![v232] : Fin 1 → IVec S16 32) a x).toNat < S16384.size a)
theorem k0_idx67_inb : ∀ (v232 : IVec S16 32) (k0_hw67 : k0_chk67 v232), ∀ a x, ((![v232] : Fin 1 → IVec S16 32) a x).toNat < S16384.size a := fun v232 k0_hw67 => k0_hw67
def k0_off73 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk68 (v239 : IVec S16 32) : Prop :=
  (∀ a x, ((![v239] : Fin 1 → IVec S16 32) a x).toNat < S16384.size a)
theorem k0_idx68_inb : ∀ (v239 : IVec S16 32) (k0_hw68 : k0_chk68 v239), ∀ a x, ((![v239] : Fin 1 → IVec S16 32) a x).toNat < S16384.size a := fun v239 k0_hw68 => k0_hw68
def k0_off74 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk69 (v246 : IVec S16 32) : Prop :=
  (∀ a x, ((![v246] : Fin 1 → IVec S16 32) a x).toNat < S16384.size a)
theorem k0_idx69_inb : ∀ (v246 : IVec S16 32) (k0_hw69 : k0_chk69 v246), ∀ a x, ((![v246] : Fin 1 → IVec S16 32) a x).toNat < S16384.size a := fun v246 k0_hw69 => k0_hw69
def k0_off75 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk70 (v253 : IVec S16 32) : Prop :=
  (∀ a x, ((![v253] : Fin 1 → IVec S16 32) a x).toNat < S16384.size a)
theorem k0_idx70_inb : ∀ (v253 : IVec S16 32) (k0_hw70 : k0_chk70 v253), ∀ a x, ((![v253] : Fin 1 → IVec S16 32) a x).toNat < S16384.size a := fun v253 k0_hw70 => k0_hw70
def k0_off76 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk71 (v260 : IVec S16 32) : Prop :=
  (∀ a x, ((![v260] : Fin 1 → IVec S16 32) a x).toNat < S16384.size a)
theorem k0_idx71_inb : ∀ (v260 : IVec S16 32) (k0_hw71 : k0_chk71 v260), ∀ a x, ((![v260] : Fin 1 → IVec S16 32) a x).toNat < S16384.size a := fun v260 k0_hw71 => k0_hw71
def k0_off77 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk72 (v267 : IVec S16 32) : Prop :=
  (∀ a x, ((![v267] : Fin 1 → IVec S16 32) a x).toNat < S16384.size a)
theorem k0_idx72_inb : ∀ (v267 : IVec S16 32) (k0_hw72 : k0_chk72 v267), ∀ a x, ((![v267] : Fin 1 → IVec S16 32) a x).toNat < S16384.size a := fun v267 k0_hw72 => k0_hw72
def k0_off78 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk73 (v274 : IVec S16 32) : Prop :=
  (∀ a x, ((![v274] : Fin 1 → IVec S16 32) a x).toNat < S16384.size a)
theorem k0_idx73_inb : ∀ (v274 : IVec S16 32) (k0_hw73 : k0_chk73 v274), ∀ a x, ((![v274] : Fin 1 → IVec S16 32) a x).toNat < S16384.size a := fun v274 k0_hw73 => k0_hw73
def k0_off79 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk74 (v281 : IVec S16 32) : Prop :=
  (∀ a x, ((![v281] : Fin 1 → IVec S16 32) a x).toNat < S16384.size a)
theorem k0_idx74_inb : ∀ (v281 : IVec S16 32) (k0_hw74 : k0_chk74 v281), ∀ a x, ((![v281] : Fin 1 → IVec S16 32) a x).toNat < S16384.size a := fun v281 k0_hw74 => k0_hw74
def k0_off80 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk75 (v288 : IVec S16 32) : Prop :=
  (∀ a x, ((![v288] : Fin 1 → IVec S16 32) a x).toNat < S16384.size a)
theorem k0_idx75_inb : ∀ (v288 : IVec S16 32) (k0_hw75 : k0_chk75 v288), ∀ a x, ((![v288] : Fin 1 → IVec S16 32) a x).toNat < S16384.size a := fun v288 k0_hw75 => k0_hw75
def k0_off81 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk76 (v295 : IVec S16 32) : Prop :=
  (∀ a x, ((![v295] : Fin 1 → IVec S16 32) a x).toNat < S16384.size a)
theorem k0_idx76_inb : ∀ (v295 : IVec S16 32) (k0_hw76 : k0_chk76 v295), ∀ a x, ((![v295] : Fin 1 → IVec S16 32) a x).toNat < S16384.size a := fun v295 k0_hw76 => k0_hw76
def k0_off82 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk77 (v302 : IVec S16 32) : Prop :=
  (∀ a x, ((![v302] : Fin 1 → IVec S16 32) a x).toNat < S16384.size a)
theorem k0_idx77_inb : ∀ (v302 : IVec S16 32) (k0_hw77 : k0_chk77 v302), ∀ a x, ((![v302] : Fin 1 → IVec S16 32) a x).toNat < S16384.size a := fun v302 k0_hw77 => k0_hw77
def k0_off83 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk78 (v309 : IVec S16 32) : Prop :=
  (∀ a x, ((![v309] : Fin 1 → IVec S16 32) a x).toNat < S16384.size a)
theorem k0_idx78_inb : ∀ (v309 : IVec S16 32) (k0_hw78 : k0_chk78 v309), ∀ a x, ((![v309] : Fin 1 → IVec S16 32) a x).toNat < S16384.size a := fun v309 k0_hw78 => k0_hw78
def k0_off84 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk79 (v316 : IVec S16 32) : Prop :=
  (∀ a x, ((![v316] : Fin 1 → IVec S16 32) a x).toNat < S16384.size a)
theorem k0_idx79_inb : ∀ (v316 : IVec S16 32) (k0_hw79 : k0_chk79 v316), ∀ a x, ((![v316] : Fin 1 → IVec S16 32) a x).toNat < S16384.size a := fun v316 k0_hw79 => k0_hw79
def k0_off85 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk80 (v323 : IVec S16 32) : Prop :=
  (∀ a x, ((![v323] : Fin 1 → IVec S16 32) a x).toNat < S16384.size a)
theorem k0_idx80_inb : ∀ (v323 : IVec S16 32) (k0_hw80 : k0_chk80 v323), ∀ a x, ((![v323] : Fin 1 → IVec S16 32) a x).toNat < S16384.size a := fun v323 k0_hw80 => k0_hw80
def k0_off86 (k0_t5 : Fin k0_t5_loop.trips) : Fin 1 → Nat :=
  let c0_i32_111 : BitVec 32 := 0#32
  let c0_i32_26 : BitVec 32 := 0#32
  let c1_i32_28 : BitVec 32 := 1#32
  let arg14 : BitVec 32 := Scf.iv c0_i32_26 c1_i32_28 k0_t5
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t6_loop : Scf.Loop 32 :=
  let c0_i32_33 : BitVec 32 := 0#32
  let c64_i32_34 : BitVec 32 := 64#32
  let v75 : BitVec 32 := Scalar.addi c0_i32_33 c64_i32_34
  let c1_i32_35 : BitVec 32 := 1#32
  ⟨c0_i32_33, v75, c1_i32_35⟩
def k0_off87 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk81 (v218 : IVec S16 32) : Prop :=
  (∀ a x, ((![v218] : Fin 1 → IVec S16 32) a x).toNat < S16384.size a)
theorem k0_idx81_inb : ∀ (v218 : IVec S16 32) (k0_hw81 : k0_chk81 v218), ∀ a x, ((![v218] : Fin 1 → IVec S16 32) a x).toNat < S16384.size a := fun v218 k0_hw81 => k0_hw81
def k0_off88 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk82 (v225 : IVec S16 32) : Prop :=
  (∀ a x, ((![v225] : Fin 1 → IVec S16 32) a x).toNat < S16384.size a)
theorem k0_idx82_inb : ∀ (v225 : IVec S16 32) (k0_hw82 : k0_chk82 v225), ∀ a x, ((![v225] : Fin 1 → IVec S16 32) a x).toNat < S16384.size a := fun v225 k0_hw82 => k0_hw82
def k0_off89 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk83 (v232 : IVec S16 32) : Prop :=
  (∀ a x, ((![v232] : Fin 1 → IVec S16 32) a x).toNat < S16384.size a)
theorem k0_idx83_inb : ∀ (v232 : IVec S16 32) (k0_hw83 : k0_chk83 v232), ∀ a x, ((![v232] : Fin 1 → IVec S16 32) a x).toNat < S16384.size a := fun v232 k0_hw83 => k0_hw83
def k0_off90 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk84 (v239 : IVec S16 32) : Prop :=
  (∀ a x, ((![v239] : Fin 1 → IVec S16 32) a x).toNat < S16384.size a)
theorem k0_idx84_inb : ∀ (v239 : IVec S16 32) (k0_hw84 : k0_chk84 v239), ∀ a x, ((![v239] : Fin 1 → IVec S16 32) a x).toNat < S16384.size a := fun v239 k0_hw84 => k0_hw84
def k0_off91 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk85 (v246 : IVec S16 32) : Prop :=
  (∀ a x, ((![v246] : Fin 1 → IVec S16 32) a x).toNat < S16384.size a)
theorem k0_idx85_inb : ∀ (v246 : IVec S16 32) (k0_hw85 : k0_chk85 v246), ∀ a x, ((![v246] : Fin 1 → IVec S16 32) a x).toNat < S16384.size a := fun v246 k0_hw85 => k0_hw85
def k0_off92 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk86 (v253 : IVec S16 32) : Prop :=
  (∀ a x, ((![v253] : Fin 1 → IVec S16 32) a x).toNat < S16384.size a)
theorem k0_idx86_inb : ∀ (v253 : IVec S16 32) (k0_hw86 : k0_chk86 v253), ∀ a x, ((![v253] : Fin 1 → IVec S16 32) a x).toNat < S16384.size a := fun v253 k0_hw86 => k0_hw86
def k0_off93 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk87 (v260 : IVec S16 32) : Prop :=
  (∀ a x, ((![v260] : Fin 1 → IVec S16 32) a x).toNat < S16384.size a)
theorem k0_idx87_inb : ∀ (v260 : IVec S16 32) (k0_hw87 : k0_chk87 v260), ∀ a x, ((![v260] : Fin 1 → IVec S16 32) a x).toNat < S16384.size a := fun v260 k0_hw87 => k0_hw87
def k0_off94 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk88 (v267 : IVec S16 32) : Prop :=
  (∀ a x, ((![v267] : Fin 1 → IVec S16 32) a x).toNat < S16384.size a)
theorem k0_idx88_inb : ∀ (v267 : IVec S16 32) (k0_hw88 : k0_chk88 v267), ∀ a x, ((![v267] : Fin 1 → IVec S16 32) a x).toNat < S16384.size a := fun v267 k0_hw88 => k0_hw88
def k0_off95 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk89 (v274 : IVec S16 32) : Prop :=
  (∀ a x, ((![v274] : Fin 1 → IVec S16 32) a x).toNat < S16384.size a)
theorem k0_idx89_inb : ∀ (v274 : IVec S16 32) (k0_hw89 : k0_chk89 v274), ∀ a x, ((![v274] : Fin 1 → IVec S16 32) a x).toNat < S16384.size a := fun v274 k0_hw89 => k0_hw89
def k0_off96 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk90 (v281 : IVec S16 32) : Prop :=
  (∀ a x, ((![v281] : Fin 1 → IVec S16 32) a x).toNat < S16384.size a)
theorem k0_idx90_inb : ∀ (v281 : IVec S16 32) (k0_hw90 : k0_chk90 v281), ∀ a x, ((![v281] : Fin 1 → IVec S16 32) a x).toNat < S16384.size a := fun v281 k0_hw90 => k0_hw90
def k0_off97 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk91 (v288 : IVec S16 32) : Prop :=
  (∀ a x, ((![v288] : Fin 1 → IVec S16 32) a x).toNat < S16384.size a)
theorem k0_idx91_inb : ∀ (v288 : IVec S16 32) (k0_hw91 : k0_chk91 v288), ∀ a x, ((![v288] : Fin 1 → IVec S16 32) a x).toNat < S16384.size a := fun v288 k0_hw91 => k0_hw91
def k0_off98 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk92 (v295 : IVec S16 32) : Prop :=
  (∀ a x, ((![v295] : Fin 1 → IVec S16 32) a x).toNat < S16384.size a)
theorem k0_idx92_inb : ∀ (v295 : IVec S16 32) (k0_hw92 : k0_chk92 v295), ∀ a x, ((![v295] : Fin 1 → IVec S16 32) a x).toNat < S16384.size a := fun v295 k0_hw92 => k0_hw92
def k0_off99 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk93 (v302 : IVec S16 32) : Prop :=
  (∀ a x, ((![v302] : Fin 1 → IVec S16 32) a x).toNat < S16384.size a)
theorem k0_idx93_inb : ∀ (v302 : IVec S16 32) (k0_hw93 : k0_chk93 v302), ∀ a x, ((![v302] : Fin 1 → IVec S16 32) a x).toNat < S16384.size a := fun v302 k0_hw93 => k0_hw93
def k0_off100 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk94 (v309 : IVec S16 32) : Prop :=
  (∀ a x, ((![v309] : Fin 1 → IVec S16 32) a x).toNat < S16384.size a)
theorem k0_idx94_inb : ∀ (v309 : IVec S16 32) (k0_hw94 : k0_chk94 v309), ∀ a x, ((![v309] : Fin 1 → IVec S16 32) a x).toNat < S16384.size a := fun v309 k0_hw94 => k0_hw94
def k0_off101 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk95 (v316 : IVec S16 32) : Prop :=
  (∀ a x, ((![v316] : Fin 1 → IVec S16 32) a x).toNat < S16384.size a)
theorem k0_idx95_inb : ∀ (v316 : IVec S16 32) (k0_hw95 : k0_chk95 v316), ∀ a x, ((![v316] : Fin 1 → IVec S16 32) a x).toNat < S16384.size a := fun v316 k0_hw95 => k0_hw95
def k0_off102 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk96 (v323 : IVec S16 32) : Prop :=
  (∀ a x, ((![v323] : Fin 1 → IVec S16 32) a x).toNat < S16384.size a)
theorem k0_idx96_inb : ∀ (v323 : IVec S16 32) (k0_hw96 : k0_chk96 v323), ∀ a x, ((![v323] : Fin 1 → IVec S16 32) a x).toNat < S16384.size a := fun v323 k0_hw96 => k0_hw96
def k0_off103 (k0_t6 : Fin k0_t6_loop.trips) : Fin 1 → Nat :=
  let c0_i32_111 : BitVec 32 := 0#32
  let c0_i32_33 : BitVec 32 := 0#32
  let c1_i32_35 : BitVec 32 := 1#32
  let arg14 : BitVec 32 := Scf.iv c0_i32_33 c1_i32_35 k0_t6
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t7_loop : Scf.Loop 32 :=
  let c0_i32_40 : BitVec 32 := 0#32
  let c64_i32_41 : BitVec 32 := 64#32
  let v88 : BitVec 32 := Scalar.addi c0_i32_40 c64_i32_41
  let c1_i32_42 : BitVec 32 := 1#32
  ⟨c0_i32_40, v88, c1_i32_42⟩
def k0_off104 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk97 (v218 : IVec S16 32) : Prop :=
  (∀ a x, ((![v218] : Fin 1 → IVec S16 32) a x).toNat < S16384.size a)
theorem k0_idx97_inb : ∀ (v218 : IVec S16 32) (k0_hw97 : k0_chk97 v218), ∀ a x, ((![v218] : Fin 1 → IVec S16 32) a x).toNat < S16384.size a := fun v218 k0_hw97 => k0_hw97
def k0_off105 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk98 (v225 : IVec S16 32) : Prop :=
  (∀ a x, ((![v225] : Fin 1 → IVec S16 32) a x).toNat < S16384.size a)
theorem k0_idx98_inb : ∀ (v225 : IVec S16 32) (k0_hw98 : k0_chk98 v225), ∀ a x, ((![v225] : Fin 1 → IVec S16 32) a x).toNat < S16384.size a := fun v225 k0_hw98 => k0_hw98
def k0_off106 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk99 (v232 : IVec S16 32) : Prop :=
  (∀ a x, ((![v232] : Fin 1 → IVec S16 32) a x).toNat < S16384.size a)
theorem k0_idx99_inb : ∀ (v232 : IVec S16 32) (k0_hw99 : k0_chk99 v232), ∀ a x, ((![v232] : Fin 1 → IVec S16 32) a x).toNat < S16384.size a := fun v232 k0_hw99 => k0_hw99
def k0_off107 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk100 (v239 : IVec S16 32) : Prop :=
  (∀ a x, ((![v239] : Fin 1 → IVec S16 32) a x).toNat < S16384.size a)
theorem k0_idx100_inb : ∀ (v239 : IVec S16 32) (k0_hw100 : k0_chk100 v239), ∀ a x, ((![v239] : Fin 1 → IVec S16 32) a x).toNat < S16384.size a := fun v239 k0_hw100 => k0_hw100
def k0_off108 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk101 (v246 : IVec S16 32) : Prop :=
  (∀ a x, ((![v246] : Fin 1 → IVec S16 32) a x).toNat < S16384.size a)
theorem k0_idx101_inb : ∀ (v246 : IVec S16 32) (k0_hw101 : k0_chk101 v246), ∀ a x, ((![v246] : Fin 1 → IVec S16 32) a x).toNat < S16384.size a := fun v246 k0_hw101 => k0_hw101
def k0_off109 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk102 (v253 : IVec S16 32) : Prop :=
  (∀ a x, ((![v253] : Fin 1 → IVec S16 32) a x).toNat < S16384.size a)
theorem k0_idx102_inb : ∀ (v253 : IVec S16 32) (k0_hw102 : k0_chk102 v253), ∀ a x, ((![v253] : Fin 1 → IVec S16 32) a x).toNat < S16384.size a := fun v253 k0_hw102 => k0_hw102
def k0_off110 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk103 (v260 : IVec S16 32) : Prop :=
  (∀ a x, ((![v260] : Fin 1 → IVec S16 32) a x).toNat < S16384.size a)
theorem k0_idx103_inb : ∀ (v260 : IVec S16 32) (k0_hw103 : k0_chk103 v260), ∀ a x, ((![v260] : Fin 1 → IVec S16 32) a x).toNat < S16384.size a := fun v260 k0_hw103 => k0_hw103
def k0_off111 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk104 (v267 : IVec S16 32) : Prop :=
  (∀ a x, ((![v267] : Fin 1 → IVec S16 32) a x).toNat < S16384.size a)
theorem k0_idx104_inb : ∀ (v267 : IVec S16 32) (k0_hw104 : k0_chk104 v267), ∀ a x, ((![v267] : Fin 1 → IVec S16 32) a x).toNat < S16384.size a := fun v267 k0_hw104 => k0_hw104
def k0_off112 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk105 (v274 : IVec S16 32) : Prop :=
  (∀ a x, ((![v274] : Fin 1 → IVec S16 32) a x).toNat < S16384.size a)
theorem k0_idx105_inb : ∀ (v274 : IVec S16 32) (k0_hw105 : k0_chk105 v274), ∀ a x, ((![v274] : Fin 1 → IVec S16 32) a x).toNat < S16384.size a := fun v274 k0_hw105 => k0_hw105
def k0_off113 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk106 (v281 : IVec S16 32) : Prop :=
  (∀ a x, ((![v281] : Fin 1 → IVec S16 32) a x).toNat < S16384.size a)
theorem k0_idx106_inb : ∀ (v281 : IVec S16 32) (k0_hw106 : k0_chk106 v281), ∀ a x, ((![v281] : Fin 1 → IVec S16 32) a x).toNat < S16384.size a := fun v281 k0_hw106 => k0_hw106
def k0_off114 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk107 (v288 : IVec S16 32) : Prop :=
  (∀ a x, ((![v288] : Fin 1 → IVec S16 32) a x).toNat < S16384.size a)
theorem k0_idx107_inb : ∀ (v288 : IVec S16 32) (k0_hw107 : k0_chk107 v288), ∀ a x, ((![v288] : Fin 1 → IVec S16 32) a x).toNat < S16384.size a := fun v288 k0_hw107 => k0_hw107
def k0_off115 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk108 (v295 : IVec S16 32) : Prop :=
  (∀ a x, ((![v295] : Fin 1 → IVec S16 32) a x).toNat < S16384.size a)
theorem k0_idx108_inb : ∀ (v295 : IVec S16 32) (k0_hw108 : k0_chk108 v295), ∀ a x, ((![v295] : Fin 1 → IVec S16 32) a x).toNat < S16384.size a := fun v295 k0_hw108 => k0_hw108
def k0_off116 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk109 (v302 : IVec S16 32) : Prop :=
  (∀ a x, ((![v302] : Fin 1 → IVec S16 32) a x).toNat < S16384.size a)
theorem k0_idx109_inb : ∀ (v302 : IVec S16 32) (k0_hw109 : k0_chk109 v302), ∀ a x, ((![v302] : Fin 1 → IVec S16 32) a x).toNat < S16384.size a := fun v302 k0_hw109 => k0_hw109
def k0_off117 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk110 (v309 : IVec S16 32) : Prop :=
  (∀ a x, ((![v309] : Fin 1 → IVec S16 32) a x).toNat < S16384.size a)
theorem k0_idx110_inb : ∀ (v309 : IVec S16 32) (k0_hw110 : k0_chk110 v309), ∀ a x, ((![v309] : Fin 1 → IVec S16 32) a x).toNat < S16384.size a := fun v309 k0_hw110 => k0_hw110
def k0_off118 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk111 (v316 : IVec S16 32) : Prop :=
  (∀ a x, ((![v316] : Fin 1 → IVec S16 32) a x).toNat < S16384.size a)
theorem k0_idx111_inb : ∀ (v316 : IVec S16 32) (k0_hw111 : k0_chk111 v316), ∀ a x, ((![v316] : Fin 1 → IVec S16 32) a x).toNat < S16384.size a := fun v316 k0_hw111 => k0_hw111
def k0_off119 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk112 (v323 : IVec S16 32) : Prop :=
  (∀ a x, ((![v323] : Fin 1 → IVec S16 32) a x).toNat < S16384.size a)
theorem k0_idx112_inb : ∀ (v323 : IVec S16 32) (k0_hw112 : k0_chk112 v323), ∀ a x, ((![v323] : Fin 1 → IVec S16 32) a x).toNat < S16384.size a := fun v323 k0_hw112 => k0_hw112
def k0_off120 (k0_t7 : Fin k0_t7_loop.trips) : Fin 1 → Nat :=
  let c0_i32_111 : BitVec 32 := 0#32
  let c0_i32_40 : BitVec 32 := 0#32
  let c1_i32_42 : BitVec 32 := 1#32
  let arg14 : BitVec 32 := Scf.iv c0_i32_40 c1_i32_42 k0_t7
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t8_loop : Scf.Loop 32 :=
  let c0_i32_47 : BitVec 32 := 0#32
  let c64_i32_48 : BitVec 32 := 64#32
  let v101 : BitVec 32 := Scalar.addi c0_i32_47 c64_i32_48
  let c1_i32_49 : BitVec 32 := 1#32
  ⟨c0_i32_47, v101, c1_i32_49⟩
def k0_off121 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk113 (v218 : IVec S16 32) : Prop :=
  (∀ a x, ((![v218] : Fin 1 → IVec S16 32) a x).toNat < S16384.size a)
theorem k0_idx113_inb : ∀ (v218 : IVec S16 32) (k0_hw113 : k0_chk113 v218), ∀ a x, ((![v218] : Fin 1 → IVec S16 32) a x).toNat < S16384.size a := fun v218 k0_hw113 => k0_hw113
def k0_off122 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk114 (v225 : IVec S16 32) : Prop :=
  (∀ a x, ((![v225] : Fin 1 → IVec S16 32) a x).toNat < S16384.size a)
theorem k0_idx114_inb : ∀ (v225 : IVec S16 32) (k0_hw114 : k0_chk114 v225), ∀ a x, ((![v225] : Fin 1 → IVec S16 32) a x).toNat < S16384.size a := fun v225 k0_hw114 => k0_hw114
def k0_off123 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk115 (v232 : IVec S16 32) : Prop :=
  (∀ a x, ((![v232] : Fin 1 → IVec S16 32) a x).toNat < S16384.size a)
theorem k0_idx115_inb : ∀ (v232 : IVec S16 32) (k0_hw115 : k0_chk115 v232), ∀ a x, ((![v232] : Fin 1 → IVec S16 32) a x).toNat < S16384.size a := fun v232 k0_hw115 => k0_hw115
def k0_off124 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk116 (v239 : IVec S16 32) : Prop :=
  (∀ a x, ((![v239] : Fin 1 → IVec S16 32) a x).toNat < S16384.size a)
theorem k0_idx116_inb : ∀ (v239 : IVec S16 32) (k0_hw116 : k0_chk116 v239), ∀ a x, ((![v239] : Fin 1 → IVec S16 32) a x).toNat < S16384.size a := fun v239 k0_hw116 => k0_hw116
def k0_off125 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk117 (v246 : IVec S16 32) : Prop :=
  (∀ a x, ((![v246] : Fin 1 → IVec S16 32) a x).toNat < S16384.size a)
theorem k0_idx117_inb : ∀ (v246 : IVec S16 32) (k0_hw117 : k0_chk117 v246), ∀ a x, ((![v246] : Fin 1 → IVec S16 32) a x).toNat < S16384.size a := fun v246 k0_hw117 => k0_hw117
def k0_off126 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk118 (v253 : IVec S16 32) : Prop :=
  (∀ a x, ((![v253] : Fin 1 → IVec S16 32) a x).toNat < S16384.size a)
theorem k0_idx118_inb : ∀ (v253 : IVec S16 32) (k0_hw118 : k0_chk118 v253), ∀ a x, ((![v253] : Fin 1 → IVec S16 32) a x).toNat < S16384.size a := fun v253 k0_hw118 => k0_hw118
def k0_off127 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk119 (v260 : IVec S16 32) : Prop :=
  (∀ a x, ((![v260] : Fin 1 → IVec S16 32) a x).toNat < S16384.size a)
theorem k0_idx119_inb : ∀ (v260 : IVec S16 32) (k0_hw119 : k0_chk119 v260), ∀ a x, ((![v260] : Fin 1 → IVec S16 32) a x).toNat < S16384.size a := fun v260 k0_hw119 => k0_hw119
def k0_off128 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk120 (v267 : IVec S16 32) : Prop :=
  (∀ a x, ((![v267] : Fin 1 → IVec S16 32) a x).toNat < S16384.size a)
theorem k0_idx120_inb : ∀ (v267 : IVec S16 32) (k0_hw120 : k0_chk120 v267), ∀ a x, ((![v267] : Fin 1 → IVec S16 32) a x).toNat < S16384.size a := fun v267 k0_hw120 => k0_hw120
def k0_off129 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk121 (v274 : IVec S16 32) : Prop :=
  (∀ a x, ((![v274] : Fin 1 → IVec S16 32) a x).toNat < S16384.size a)
theorem k0_idx121_inb : ∀ (v274 : IVec S16 32) (k0_hw121 : k0_chk121 v274), ∀ a x, ((![v274] : Fin 1 → IVec S16 32) a x).toNat < S16384.size a := fun v274 k0_hw121 => k0_hw121
def k0_off130 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk122 (v281 : IVec S16 32) : Prop :=
  (∀ a x, ((![v281] : Fin 1 → IVec S16 32) a x).toNat < S16384.size a)
theorem k0_idx122_inb : ∀ (v281 : IVec S16 32) (k0_hw122 : k0_chk122 v281), ∀ a x, ((![v281] : Fin 1 → IVec S16 32) a x).toNat < S16384.size a := fun v281 k0_hw122 => k0_hw122
def k0_off131 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk123 (v288 : IVec S16 32) : Prop :=
  (∀ a x, ((![v288] : Fin 1 → IVec S16 32) a x).toNat < S16384.size a)
theorem k0_idx123_inb : ∀ (v288 : IVec S16 32) (k0_hw123 : k0_chk123 v288), ∀ a x, ((![v288] : Fin 1 → IVec S16 32) a x).toNat < S16384.size a := fun v288 k0_hw123 => k0_hw123
def k0_off132 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk124 (v295 : IVec S16 32) : Prop :=
  (∀ a x, ((![v295] : Fin 1 → IVec S16 32) a x).toNat < S16384.size a)
theorem k0_idx124_inb : ∀ (v295 : IVec S16 32) (k0_hw124 : k0_chk124 v295), ∀ a x, ((![v295] : Fin 1 → IVec S16 32) a x).toNat < S16384.size a := fun v295 k0_hw124 => k0_hw124
def k0_off133 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk125 (v302 : IVec S16 32) : Prop :=
  (∀ a x, ((![v302] : Fin 1 → IVec S16 32) a x).toNat < S16384.size a)
theorem k0_idx125_inb : ∀ (v302 : IVec S16 32) (k0_hw125 : k0_chk125 v302), ∀ a x, ((![v302] : Fin 1 → IVec S16 32) a x).toNat < S16384.size a := fun v302 k0_hw125 => k0_hw125
def k0_off134 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk126 (v309 : IVec S16 32) : Prop :=
  (∀ a x, ((![v309] : Fin 1 → IVec S16 32) a x).toNat < S16384.size a)
theorem k0_idx126_inb : ∀ (v309 : IVec S16 32) (k0_hw126 : k0_chk126 v309), ∀ a x, ((![v309] : Fin 1 → IVec S16 32) a x).toNat < S16384.size a := fun v309 k0_hw126 => k0_hw126
def k0_off135 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk127 (v316 : IVec S16 32) : Prop :=
  (∀ a x, ((![v316] : Fin 1 → IVec S16 32) a x).toNat < S16384.size a)
theorem k0_idx127_inb : ∀ (v316 : IVec S16 32) (k0_hw127 : k0_chk127 v316), ∀ a x, ((![v316] : Fin 1 → IVec S16 32) a x).toNat < S16384.size a := fun v316 k0_hw127 => k0_hw127
def k0_off136 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk128 (v323 : IVec S16 32) : Prop :=
  (∀ a x, ((![v323] : Fin 1 → IVec S16 32) a x).toNat < S16384.size a)
theorem k0_idx128_inb : ∀ (v323 : IVec S16 32) (k0_hw128 : k0_chk128 v323), ∀ a x, ((![v323] : Fin 1 → IVec S16 32) a x).toNat < S16384.size a := fun v323 k0_hw128 => k0_hw128
def k0_off137 (k0_t8 : Fin k0_t8_loop.trips) : Fin 1 → Nat :=
  let c0_i32_111 : BitVec 32 := 0#32
  let c0_i32_47 : BitVec 32 := 0#32
  let c1_i32_49 : BitVec 32 := 1#32
  let arg14 : BitVec 32 := Scf.iv c0_i32_47 c1_i32_49 k0_t8
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t9_loop : Scf.Loop 32 :=
  let c0_i32_54 : BitVec 32 := 0#32
  let c64_i32_55 : BitVec 32 := 64#32
  let v114 : BitVec 32 := Scalar.addi c0_i32_54 c64_i32_55
  let c1_i32_56 : BitVec 32 := 1#32
  ⟨c0_i32_54, v114, c1_i32_56⟩
def k0_off138 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk129 (v218 : IVec S16 32) : Prop :=
  (∀ a x, ((![v218] : Fin 1 → IVec S16 32) a x).toNat < S16384.size a)
theorem k0_idx129_inb : ∀ (v218 : IVec S16 32) (k0_hw129 : k0_chk129 v218), ∀ a x, ((![v218] : Fin 1 → IVec S16 32) a x).toNat < S16384.size a := fun v218 k0_hw129 => k0_hw129
def k0_off139 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk130 (v225 : IVec S16 32) : Prop :=
  (∀ a x, ((![v225] : Fin 1 → IVec S16 32) a x).toNat < S16384.size a)
theorem k0_idx130_inb : ∀ (v225 : IVec S16 32) (k0_hw130 : k0_chk130 v225), ∀ a x, ((![v225] : Fin 1 → IVec S16 32) a x).toNat < S16384.size a := fun v225 k0_hw130 => k0_hw130
def k0_off140 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk131 (v232 : IVec S16 32) : Prop :=
  (∀ a x, ((![v232] : Fin 1 → IVec S16 32) a x).toNat < S16384.size a)
theorem k0_idx131_inb : ∀ (v232 : IVec S16 32) (k0_hw131 : k0_chk131 v232), ∀ a x, ((![v232] : Fin 1 → IVec S16 32) a x).toNat < S16384.size a := fun v232 k0_hw131 => k0_hw131
def k0_off141 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk132 (v239 : IVec S16 32) : Prop :=
  (∀ a x, ((![v239] : Fin 1 → IVec S16 32) a x).toNat < S16384.size a)
theorem k0_idx132_inb : ∀ (v239 : IVec S16 32) (k0_hw132 : k0_chk132 v239), ∀ a x, ((![v239] : Fin 1 → IVec S16 32) a x).toNat < S16384.size a := fun v239 k0_hw132 => k0_hw132
def k0_off142 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk133 (v246 : IVec S16 32) : Prop :=
  (∀ a x, ((![v246] : Fin 1 → IVec S16 32) a x).toNat < S16384.size a)
theorem k0_idx133_inb : ∀ (v246 : IVec S16 32) (k0_hw133 : k0_chk133 v246), ∀ a x, ((![v246] : Fin 1 → IVec S16 32) a x).toNat < S16384.size a := fun v246 k0_hw133 => k0_hw133
def k0_off143 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk134 (v253 : IVec S16 32) : Prop :=
  (∀ a x, ((![v253] : Fin 1 → IVec S16 32) a x).toNat < S16384.size a)
theorem k0_idx134_inb : ∀ (v253 : IVec S16 32) (k0_hw134 : k0_chk134 v253), ∀ a x, ((![v253] : Fin 1 → IVec S16 32) a x).toNat < S16384.size a := fun v253 k0_hw134 => k0_hw134
def k0_off144 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk135 (v260 : IVec S16 32) : Prop :=
  (∀ a x, ((![v260] : Fin 1 → IVec S16 32) a x).toNat < S16384.size a)
theorem k0_idx135_inb : ∀ (v260 : IVec S16 32) (k0_hw135 : k0_chk135 v260), ∀ a x, ((![v260] : Fin 1 → IVec S16 32) a x).toNat < S16384.size a := fun v260 k0_hw135 => k0_hw135
def k0_off145 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk136 (v267 : IVec S16 32) : Prop :=
  (∀ a x, ((![v267] : Fin 1 → IVec S16 32) a x).toNat < S16384.size a)
theorem k0_idx136_inb : ∀ (v267 : IVec S16 32) (k0_hw136 : k0_chk136 v267), ∀ a x, ((![v267] : Fin 1 → IVec S16 32) a x).toNat < S16384.size a := fun v267 k0_hw136 => k0_hw136
def k0_off146 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk137 (v274 : IVec S16 32) : Prop :=
  (∀ a x, ((![v274] : Fin 1 → IVec S16 32) a x).toNat < S16384.size a)
theorem k0_idx137_inb : ∀ (v274 : IVec S16 32) (k0_hw137 : k0_chk137 v274), ∀ a x, ((![v274] : Fin 1 → IVec S16 32) a x).toNat < S16384.size a := fun v274 k0_hw137 => k0_hw137
def k0_off147 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk138 (v281 : IVec S16 32) : Prop :=
  (∀ a x, ((![v281] : Fin 1 → IVec S16 32) a x).toNat < S16384.size a)
theorem k0_idx138_inb : ∀ (v281 : IVec S16 32) (k0_hw138 : k0_chk138 v281), ∀ a x, ((![v281] : Fin 1 → IVec S16 32) a x).toNat < S16384.size a := fun v281 k0_hw138 => k0_hw138
def k0_off148 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk139 (v288 : IVec S16 32) : Prop :=
  (∀ a x, ((![v288] : Fin 1 → IVec S16 32) a x).toNat < S16384.size a)
theorem k0_idx139_inb : ∀ (v288 : IVec S16 32) (k0_hw139 : k0_chk139 v288), ∀ a x, ((![v288] : Fin 1 → IVec S16 32) a x).toNat < S16384.size a := fun v288 k0_hw139 => k0_hw139
def k0_off149 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk140 (v295 : IVec S16 32) : Prop :=
  (∀ a x, ((![v295] : Fin 1 → IVec S16 32) a x).toNat < S16384.size a)
theorem k0_idx140_inb : ∀ (v295 : IVec S16 32) (k0_hw140 : k0_chk140 v295), ∀ a x, ((![v295] : Fin 1 → IVec S16 32) a x).toNat < S16384.size a := fun v295 k0_hw140 => k0_hw140
def k0_off150 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk141 (v302 : IVec S16 32) : Prop :=
  (∀ a x, ((![v302] : Fin 1 → IVec S16 32) a x).toNat < S16384.size a)
theorem k0_idx141_inb : ∀ (v302 : IVec S16 32) (k0_hw141 : k0_chk141 v302), ∀ a x, ((![v302] : Fin 1 → IVec S16 32) a x).toNat < S16384.size a := fun v302 k0_hw141 => k0_hw141
def k0_off151 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk142 (v309 : IVec S16 32) : Prop :=
  (∀ a x, ((![v309] : Fin 1 → IVec S16 32) a x).toNat < S16384.size a)
theorem k0_idx142_inb : ∀ (v309 : IVec S16 32) (k0_hw142 : k0_chk142 v309), ∀ a x, ((![v309] : Fin 1 → IVec S16 32) a x).toNat < S16384.size a := fun v309 k0_hw142 => k0_hw142
def k0_off152 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk143 (v316 : IVec S16 32) : Prop :=
  (∀ a x, ((![v316] : Fin 1 → IVec S16 32) a x).toNat < S16384.size a)
theorem k0_idx143_inb : ∀ (v316 : IVec S16 32) (k0_hw143 : k0_chk143 v316), ∀ a x, ((![v316] : Fin 1 → IVec S16 32) a x).toNat < S16384.size a := fun v316 k0_hw143 => k0_hw143
def k0_off153 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk144 (v323 : IVec S16 32) : Prop :=
  (∀ a x, ((![v323] : Fin 1 → IVec S16 32) a x).toNat < S16384.size a)
theorem k0_idx144_inb : ∀ (v323 : IVec S16 32) (k0_hw144 : k0_chk144 v323), ∀ a x, ((![v323] : Fin 1 → IVec S16 32) a x).toNat < S16384.size a := fun v323 k0_hw144 => k0_hw144
def k0_off154 (k0_t9 : Fin k0_t9_loop.trips) : Fin 1 → Nat :=
  let c0_i32_111 : BitVec 32 := 0#32
  let c0_i32_54 : BitVec 32 := 0#32
  let c1_i32_56 : BitVec 32 := 1#32
  let arg14 : BitVec 32 := Scf.iv c0_i32_54 c1_i32_56 k0_t9
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t10_loop : Scf.Loop 32 :=
  let c0_i32_61 : BitVec 32 := 0#32
  let c64_i32_62 : BitVec 32 := 64#32
  let v127 : BitVec 32 := Scalar.addi c0_i32_61 c64_i32_62
  let c1_i32_63 : BitVec 32 := 1#32
  ⟨c0_i32_61, v127, c1_i32_63⟩
def k0_off155 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk145 (v218 : IVec S16 32) : Prop :=
  (∀ a x, ((![v218] : Fin 1 → IVec S16 32) a x).toNat < S16384.size a)
theorem k0_idx145_inb : ∀ (v218 : IVec S16 32) (k0_hw145 : k0_chk145 v218), ∀ a x, ((![v218] : Fin 1 → IVec S16 32) a x).toNat < S16384.size a := fun v218 k0_hw145 => k0_hw145
def k0_off156 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk146 (v225 : IVec S16 32) : Prop :=
  (∀ a x, ((![v225] : Fin 1 → IVec S16 32) a x).toNat < S16384.size a)
theorem k0_idx146_inb : ∀ (v225 : IVec S16 32) (k0_hw146 : k0_chk146 v225), ∀ a x, ((![v225] : Fin 1 → IVec S16 32) a x).toNat < S16384.size a := fun v225 k0_hw146 => k0_hw146
def k0_off157 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk147 (v232 : IVec S16 32) : Prop :=
  (∀ a x, ((![v232] : Fin 1 → IVec S16 32) a x).toNat < S16384.size a)
theorem k0_idx147_inb : ∀ (v232 : IVec S16 32) (k0_hw147 : k0_chk147 v232), ∀ a x, ((![v232] : Fin 1 → IVec S16 32) a x).toNat < S16384.size a := fun v232 k0_hw147 => k0_hw147
def k0_off158 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk148 (v239 : IVec S16 32) : Prop :=
  (∀ a x, ((![v239] : Fin 1 → IVec S16 32) a x).toNat < S16384.size a)
theorem k0_idx148_inb : ∀ (v239 : IVec S16 32) (k0_hw148 : k0_chk148 v239), ∀ a x, ((![v239] : Fin 1 → IVec S16 32) a x).toNat < S16384.size a := fun v239 k0_hw148 => k0_hw148
def k0_off159 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk149 (v246 : IVec S16 32) : Prop :=
  (∀ a x, ((![v246] : Fin 1 → IVec S16 32) a x).toNat < S16384.size a)
theorem k0_idx149_inb : ∀ (v246 : IVec S16 32) (k0_hw149 : k0_chk149 v246), ∀ a x, ((![v246] : Fin 1 → IVec S16 32) a x).toNat < S16384.size a := fun v246 k0_hw149 => k0_hw149
def k0_off160 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk150 (v253 : IVec S16 32) : Prop :=
  (∀ a x, ((![v253] : Fin 1 → IVec S16 32) a x).toNat < S16384.size a)
theorem k0_idx150_inb : ∀ (v253 : IVec S16 32) (k0_hw150 : k0_chk150 v253), ∀ a x, ((![v253] : Fin 1 → IVec S16 32) a x).toNat < S16384.size a := fun v253 k0_hw150 => k0_hw150
def k0_off161 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk151 (v260 : IVec S16 32) : Prop :=
  (∀ a x, ((![v260] : Fin 1 → IVec S16 32) a x).toNat < S16384.size a)
theorem k0_idx151_inb : ∀ (v260 : IVec S16 32) (k0_hw151 : k0_chk151 v260), ∀ a x, ((![v260] : Fin 1 → IVec S16 32) a x).toNat < S16384.size a := fun v260 k0_hw151 => k0_hw151
def k0_off162 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk152 (v267 : IVec S16 32) : Prop :=
  (∀ a x, ((![v267] : Fin 1 → IVec S16 32) a x).toNat < S16384.size a)
theorem k0_idx152_inb : ∀ (v267 : IVec S16 32) (k0_hw152 : k0_chk152 v267), ∀ a x, ((![v267] : Fin 1 → IVec S16 32) a x).toNat < S16384.size a := fun v267 k0_hw152 => k0_hw152
def k0_off163 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk153 (v274 : IVec S16 32) : Prop :=
  (∀ a x, ((![v274] : Fin 1 → IVec S16 32) a x).toNat < S16384.size a)
theorem k0_idx153_inb : ∀ (v274 : IVec S16 32) (k0_hw153 : k0_chk153 v274), ∀ a x, ((![v274] : Fin 1 → IVec S16 32) a x).toNat < S16384.size a := fun v274 k0_hw153 => k0_hw153
def k0_off164 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk154 (v281 : IVec S16 32) : Prop :=
  (∀ a x, ((![v281] : Fin 1 → IVec S16 32) a x).toNat < S16384.size a)
theorem k0_idx154_inb : ∀ (v281 : IVec S16 32) (k0_hw154 : k0_chk154 v281), ∀ a x, ((![v281] : Fin 1 → IVec S16 32) a x).toNat < S16384.size a := fun v281 k0_hw154 => k0_hw154
def k0_off165 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk155 (v288 : IVec S16 32) : Prop :=
  (∀ a x, ((![v288] : Fin 1 → IVec S16 32) a x).toNat < S16384.size a)
theorem k0_idx155_inb : ∀ (v288 : IVec S16 32) (k0_hw155 : k0_chk155 v288), ∀ a x, ((![v288] : Fin 1 → IVec S16 32) a x).toNat < S16384.size a := fun v288 k0_hw155 => k0_hw155
def k0_off166 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk156 (v295 : IVec S16 32) : Prop :=
  (∀ a x, ((![v295] : Fin 1 → IVec S16 32) a x).toNat < S16384.size a)
theorem k0_idx156_inb : ∀ (v295 : IVec S16 32) (k0_hw156 : k0_chk156 v295), ∀ a x, ((![v295] : Fin 1 → IVec S16 32) a x).toNat < S16384.size a := fun v295 k0_hw156 => k0_hw156
def k0_off167 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk157 (v302 : IVec S16 32) : Prop :=
  (∀ a x, ((![v302] : Fin 1 → IVec S16 32) a x).toNat < S16384.size a)
theorem k0_idx157_inb : ∀ (v302 : IVec S16 32) (k0_hw157 : k0_chk157 v302), ∀ a x, ((![v302] : Fin 1 → IVec S16 32) a x).toNat < S16384.size a := fun v302 k0_hw157 => k0_hw157
def k0_off168 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk158 (v309 : IVec S16 32) : Prop :=
  (∀ a x, ((![v309] : Fin 1 → IVec S16 32) a x).toNat < S16384.size a)
theorem k0_idx158_inb : ∀ (v309 : IVec S16 32) (k0_hw158 : k0_chk158 v309), ∀ a x, ((![v309] : Fin 1 → IVec S16 32) a x).toNat < S16384.size a := fun v309 k0_hw158 => k0_hw158
def k0_off169 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk159 (v316 : IVec S16 32) : Prop :=
  (∀ a x, ((![v316] : Fin 1 → IVec S16 32) a x).toNat < S16384.size a)
theorem k0_idx159_inb : ∀ (v316 : IVec S16 32) (k0_hw159 : k0_chk159 v316), ∀ a x, ((![v316] : Fin 1 → IVec S16 32) a x).toNat < S16384.size a := fun v316 k0_hw159 => k0_hw159
def k0_off170 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk160 (v323 : IVec S16 32) : Prop :=
  (∀ a x, ((![v323] : Fin 1 → IVec S16 32) a x).toNat < S16384.size a)
theorem k0_idx160_inb : ∀ (v323 : IVec S16 32) (k0_hw160 : k0_chk160 v323), ∀ a x, ((![v323] : Fin 1 → IVec S16 32) a x).toNat < S16384.size a := fun v323 k0_hw160 => k0_hw160
def k0_off171 (k0_t10 : Fin k0_t10_loop.trips) : Fin 1 → Nat :=
  let c0_i32_111 : BitVec 32 := 0#32
  let c0_i32_61 : BitVec 32 := 0#32
  let c1_i32_63 : BitVec 32 := 1#32
  let arg14 : BitVec 32 := Scf.iv c0_i32_61 c1_i32_63 k0_t10
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t11_loop : Scf.Loop 32 :=
  let c0_i32_68 : BitVec 32 := 0#32
  let c64_i32_69 : BitVec 32 := 64#32
  let v140 : BitVec 32 := Scalar.addi c0_i32_68 c64_i32_69
  let c1_i32_70 : BitVec 32 := 1#32
  ⟨c0_i32_68, v140, c1_i32_70⟩
def k0_off172 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk161 (v218 : IVec S16 32) : Prop :=
  (∀ a x, ((![v218] : Fin 1 → IVec S16 32) a x).toNat < S16384.size a)
theorem k0_idx161_inb : ∀ (v218 : IVec S16 32) (k0_hw161 : k0_chk161 v218), ∀ a x, ((![v218] : Fin 1 → IVec S16 32) a x).toNat < S16384.size a := fun v218 k0_hw161 => k0_hw161
def k0_off173 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk162 (v225 : IVec S16 32) : Prop :=
  (∀ a x, ((![v225] : Fin 1 → IVec S16 32) a x).toNat < S16384.size a)
theorem k0_idx162_inb : ∀ (v225 : IVec S16 32) (k0_hw162 : k0_chk162 v225), ∀ a x, ((![v225] : Fin 1 → IVec S16 32) a x).toNat < S16384.size a := fun v225 k0_hw162 => k0_hw162
def k0_off174 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk163 (v232 : IVec S16 32) : Prop :=
  (∀ a x, ((![v232] : Fin 1 → IVec S16 32) a x).toNat < S16384.size a)
theorem k0_idx163_inb : ∀ (v232 : IVec S16 32) (k0_hw163 : k0_chk163 v232), ∀ a x, ((![v232] : Fin 1 → IVec S16 32) a x).toNat < S16384.size a := fun v232 k0_hw163 => k0_hw163
def k0_off175 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk164 (v239 : IVec S16 32) : Prop :=
  (∀ a x, ((![v239] : Fin 1 → IVec S16 32) a x).toNat < S16384.size a)
theorem k0_idx164_inb : ∀ (v239 : IVec S16 32) (k0_hw164 : k0_chk164 v239), ∀ a x, ((![v239] : Fin 1 → IVec S16 32) a x).toNat < S16384.size a := fun v239 k0_hw164 => k0_hw164
def k0_off176 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk165 (v246 : IVec S16 32) : Prop :=
  (∀ a x, ((![v246] : Fin 1 → IVec S16 32) a x).toNat < S16384.size a)
theorem k0_idx165_inb : ∀ (v246 : IVec S16 32) (k0_hw165 : k0_chk165 v246), ∀ a x, ((![v246] : Fin 1 → IVec S16 32) a x).toNat < S16384.size a := fun v246 k0_hw165 => k0_hw165
def k0_off177 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk166 (v253 : IVec S16 32) : Prop :=
  (∀ a x, ((![v253] : Fin 1 → IVec S16 32) a x).toNat < S16384.size a)
theorem k0_idx166_inb : ∀ (v253 : IVec S16 32) (k0_hw166 : k0_chk166 v253), ∀ a x, ((![v253] : Fin 1 → IVec S16 32) a x).toNat < S16384.size a := fun v253 k0_hw166 => k0_hw166
def k0_off178 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk167 (v260 : IVec S16 32) : Prop :=
  (∀ a x, ((![v260] : Fin 1 → IVec S16 32) a x).toNat < S16384.size a)
theorem k0_idx167_inb : ∀ (v260 : IVec S16 32) (k0_hw167 : k0_chk167 v260), ∀ a x, ((![v260] : Fin 1 → IVec S16 32) a x).toNat < S16384.size a := fun v260 k0_hw167 => k0_hw167
def k0_off179 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk168 (v267 : IVec S16 32) : Prop :=
  (∀ a x, ((![v267] : Fin 1 → IVec S16 32) a x).toNat < S16384.size a)
theorem k0_idx168_inb : ∀ (v267 : IVec S16 32) (k0_hw168 : k0_chk168 v267), ∀ a x, ((![v267] : Fin 1 → IVec S16 32) a x).toNat < S16384.size a := fun v267 k0_hw168 => k0_hw168
def k0_off180 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk169 (v274 : IVec S16 32) : Prop :=
  (∀ a x, ((![v274] : Fin 1 → IVec S16 32) a x).toNat < S16384.size a)
theorem k0_idx169_inb : ∀ (v274 : IVec S16 32) (k0_hw169 : k0_chk169 v274), ∀ a x, ((![v274] : Fin 1 → IVec S16 32) a x).toNat < S16384.size a := fun v274 k0_hw169 => k0_hw169
def k0_off181 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk170 (v281 : IVec S16 32) : Prop :=
  (∀ a x, ((![v281] : Fin 1 → IVec S16 32) a x).toNat < S16384.size a)
theorem k0_idx170_inb : ∀ (v281 : IVec S16 32) (k0_hw170 : k0_chk170 v281), ∀ a x, ((![v281] : Fin 1 → IVec S16 32) a x).toNat < S16384.size a := fun v281 k0_hw170 => k0_hw170
def k0_off182 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk171 (v288 : IVec S16 32) : Prop :=
  (∀ a x, ((![v288] : Fin 1 → IVec S16 32) a x).toNat < S16384.size a)
theorem k0_idx171_inb : ∀ (v288 : IVec S16 32) (k0_hw171 : k0_chk171 v288), ∀ a x, ((![v288] : Fin 1 → IVec S16 32) a x).toNat < S16384.size a := fun v288 k0_hw171 => k0_hw171
def k0_off183 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk172 (v295 : IVec S16 32) : Prop :=
  (∀ a x, ((![v295] : Fin 1 → IVec S16 32) a x).toNat < S16384.size a)
theorem k0_idx172_inb : ∀ (v295 : IVec S16 32) (k0_hw172 : k0_chk172 v295), ∀ a x, ((![v295] : Fin 1 → IVec S16 32) a x).toNat < S16384.size a := fun v295 k0_hw172 => k0_hw172
def k0_off184 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk173 (v302 : IVec S16 32) : Prop :=
  (∀ a x, ((![v302] : Fin 1 → IVec S16 32) a x).toNat < S16384.size a)
theorem k0_idx173_inb : ∀ (v302 : IVec S16 32) (k0_hw173 : k0_chk173 v302), ∀ a x, ((![v302] : Fin 1 → IVec S16 32) a x).toNat < S16384.size a := fun v302 k0_hw173 => k0_hw173
def k0_off185 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk174 (v309 : IVec S16 32) : Prop :=
  (∀ a x, ((![v309] : Fin 1 → IVec S16 32) a x).toNat < S16384.size a)
theorem k0_idx174_inb : ∀ (v309 : IVec S16 32) (k0_hw174 : k0_chk174 v309), ∀ a x, ((![v309] : Fin 1 → IVec S16 32) a x).toNat < S16384.size a := fun v309 k0_hw174 => k0_hw174
def k0_off186 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk175 (v316 : IVec S16 32) : Prop :=
  (∀ a x, ((![v316] : Fin 1 → IVec S16 32) a x).toNat < S16384.size a)
theorem k0_idx175_inb : ∀ (v316 : IVec S16 32) (k0_hw175 : k0_chk175 v316), ∀ a x, ((![v316] : Fin 1 → IVec S16 32) a x).toNat < S16384.size a := fun v316 k0_hw175 => k0_hw175
def k0_off187 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk176 (v323 : IVec S16 32) : Prop :=
  (∀ a x, ((![v323] : Fin 1 → IVec S16 32) a x).toNat < S16384.size a)
theorem k0_idx176_inb : ∀ (v323 : IVec S16 32) (k0_hw176 : k0_chk176 v323), ∀ a x, ((![v323] : Fin 1 → IVec S16 32) a x).toNat < S16384.size a := fun v323 k0_hw176 => k0_hw176
def k0_off188 (k0_t11 : Fin k0_t11_loop.trips) : Fin 1 → Nat :=
  let c0_i32_111 : BitVec 32 := 0#32
  let c0_i32_68 : BitVec 32 := 0#32
  let c1_i32_70 : BitVec 32 := 1#32
  let arg14 : BitVec 32 := Scf.iv c0_i32_68 c1_i32_70 k0_t11
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t12_loop : Scf.Loop 32 :=
  let c0_i32_75 : BitVec 32 := 0#32
  let c64_i32_76 : BitVec 32 := 64#32
  let v153 : BitVec 32 := Scalar.addi c0_i32_75 c64_i32_76
  let c1_i32_77 : BitVec 32 := 1#32
  ⟨c0_i32_75, v153, c1_i32_77⟩
def k0_off189 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk177 (v218 : IVec S16 32) : Prop :=
  (∀ a x, ((![v218] : Fin 1 → IVec S16 32) a x).toNat < S16384.size a)
theorem k0_idx177_inb : ∀ (v218 : IVec S16 32) (k0_hw177 : k0_chk177 v218), ∀ a x, ((![v218] : Fin 1 → IVec S16 32) a x).toNat < S16384.size a := fun v218 k0_hw177 => k0_hw177
def k0_off190 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk178 (v225 : IVec S16 32) : Prop :=
  (∀ a x, ((![v225] : Fin 1 → IVec S16 32) a x).toNat < S16384.size a)
theorem k0_idx178_inb : ∀ (v225 : IVec S16 32) (k0_hw178 : k0_chk178 v225), ∀ a x, ((![v225] : Fin 1 → IVec S16 32) a x).toNat < S16384.size a := fun v225 k0_hw178 => k0_hw178
def k0_off191 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk179 (v232 : IVec S16 32) : Prop :=
  (∀ a x, ((![v232] : Fin 1 → IVec S16 32) a x).toNat < S16384.size a)
theorem k0_idx179_inb : ∀ (v232 : IVec S16 32) (k0_hw179 : k0_chk179 v232), ∀ a x, ((![v232] : Fin 1 → IVec S16 32) a x).toNat < S16384.size a := fun v232 k0_hw179 => k0_hw179
def k0_off192 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk180 (v239 : IVec S16 32) : Prop :=
  (∀ a x, ((![v239] : Fin 1 → IVec S16 32) a x).toNat < S16384.size a)
theorem k0_idx180_inb : ∀ (v239 : IVec S16 32) (k0_hw180 : k0_chk180 v239), ∀ a x, ((![v239] : Fin 1 → IVec S16 32) a x).toNat < S16384.size a := fun v239 k0_hw180 => k0_hw180
def k0_off193 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk181 (v246 : IVec S16 32) : Prop :=
  (∀ a x, ((![v246] : Fin 1 → IVec S16 32) a x).toNat < S16384.size a)
theorem k0_idx181_inb : ∀ (v246 : IVec S16 32) (k0_hw181 : k0_chk181 v246), ∀ a x, ((![v246] : Fin 1 → IVec S16 32) a x).toNat < S16384.size a := fun v246 k0_hw181 => k0_hw181
def k0_off194 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk182 (v253 : IVec S16 32) : Prop :=
  (∀ a x, ((![v253] : Fin 1 → IVec S16 32) a x).toNat < S16384.size a)
theorem k0_idx182_inb : ∀ (v253 : IVec S16 32) (k0_hw182 : k0_chk182 v253), ∀ a x, ((![v253] : Fin 1 → IVec S16 32) a x).toNat < S16384.size a := fun v253 k0_hw182 => k0_hw182
def k0_off195 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk183 (v260 : IVec S16 32) : Prop :=
  (∀ a x, ((![v260] : Fin 1 → IVec S16 32) a x).toNat < S16384.size a)
theorem k0_idx183_inb : ∀ (v260 : IVec S16 32) (k0_hw183 : k0_chk183 v260), ∀ a x, ((![v260] : Fin 1 → IVec S16 32) a x).toNat < S16384.size a := fun v260 k0_hw183 => k0_hw183
def k0_off196 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk184 (v267 : IVec S16 32) : Prop :=
  (∀ a x, ((![v267] : Fin 1 → IVec S16 32) a x).toNat < S16384.size a)
theorem k0_idx184_inb : ∀ (v267 : IVec S16 32) (k0_hw184 : k0_chk184 v267), ∀ a x, ((![v267] : Fin 1 → IVec S16 32) a x).toNat < S16384.size a := fun v267 k0_hw184 => k0_hw184
def k0_off197 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk185 (v274 : IVec S16 32) : Prop :=
  (∀ a x, ((![v274] : Fin 1 → IVec S16 32) a x).toNat < S16384.size a)
theorem k0_idx185_inb : ∀ (v274 : IVec S16 32) (k0_hw185 : k0_chk185 v274), ∀ a x, ((![v274] : Fin 1 → IVec S16 32) a x).toNat < S16384.size a := fun v274 k0_hw185 => k0_hw185
def k0_off198 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk186 (v281 : IVec S16 32) : Prop :=
  (∀ a x, ((![v281] : Fin 1 → IVec S16 32) a x).toNat < S16384.size a)
theorem k0_idx186_inb : ∀ (v281 : IVec S16 32) (k0_hw186 : k0_chk186 v281), ∀ a x, ((![v281] : Fin 1 → IVec S16 32) a x).toNat < S16384.size a := fun v281 k0_hw186 => k0_hw186
def k0_off199 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk187 (v288 : IVec S16 32) : Prop :=
  (∀ a x, ((![v288] : Fin 1 → IVec S16 32) a x).toNat < S16384.size a)
theorem k0_idx187_inb : ∀ (v288 : IVec S16 32) (k0_hw187 : k0_chk187 v288), ∀ a x, ((![v288] : Fin 1 → IVec S16 32) a x).toNat < S16384.size a := fun v288 k0_hw187 => k0_hw187
def k0_off200 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk188 (v295 : IVec S16 32) : Prop :=
  (∀ a x, ((![v295] : Fin 1 → IVec S16 32) a x).toNat < S16384.size a)
theorem k0_idx188_inb : ∀ (v295 : IVec S16 32) (k0_hw188 : k0_chk188 v295), ∀ a x, ((![v295] : Fin 1 → IVec S16 32) a x).toNat < S16384.size a := fun v295 k0_hw188 => k0_hw188
def k0_off201 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk189 (v302 : IVec S16 32) : Prop :=
  (∀ a x, ((![v302] : Fin 1 → IVec S16 32) a x).toNat < S16384.size a)
theorem k0_idx189_inb : ∀ (v302 : IVec S16 32) (k0_hw189 : k0_chk189 v302), ∀ a x, ((![v302] : Fin 1 → IVec S16 32) a x).toNat < S16384.size a := fun v302 k0_hw189 => k0_hw189
def k0_off202 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk190 (v309 : IVec S16 32) : Prop :=
  (∀ a x, ((![v309] : Fin 1 → IVec S16 32) a x).toNat < S16384.size a)
theorem k0_idx190_inb : ∀ (v309 : IVec S16 32) (k0_hw190 : k0_chk190 v309), ∀ a x, ((![v309] : Fin 1 → IVec S16 32) a x).toNat < S16384.size a := fun v309 k0_hw190 => k0_hw190
def k0_off203 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk191 (v316 : IVec S16 32) : Prop :=
  (∀ a x, ((![v316] : Fin 1 → IVec S16 32) a x).toNat < S16384.size a)
theorem k0_idx191_inb : ∀ (v316 : IVec S16 32) (k0_hw191 : k0_chk191 v316), ∀ a x, ((![v316] : Fin 1 → IVec S16 32) a x).toNat < S16384.size a := fun v316 k0_hw191 => k0_hw191
def k0_off204 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk192 (v323 : IVec S16 32) : Prop :=
  (∀ a x, ((![v323] : Fin 1 → IVec S16 32) a x).toNat < S16384.size a)
theorem k0_idx192_inb : ∀ (v323 : IVec S16 32) (k0_hw192 : k0_chk192 v323), ∀ a x, ((![v323] : Fin 1 → IVec S16 32) a x).toNat < S16384.size a := fun v323 k0_hw192 => k0_hw192
def k0_off205 (k0_t12 : Fin k0_t12_loop.trips) : Fin 1 → Nat :=
  let c0_i32_111 : BitVec 32 := 0#32
  let c0_i32_75 : BitVec 32 := 0#32
  let c1_i32_77 : BitVec 32 := 1#32
  let arg14 : BitVec 32 := Scf.iv c0_i32_75 c1_i32_77 k0_t12
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t13_loop : Scf.Loop 32 :=
  let c0_i32_82 : BitVec 32 := 0#32
  let c64_i32_83 : BitVec 32 := 64#32
  let v166 : BitVec 32 := Scalar.addi c0_i32_82 c64_i32_83
  let c1_i32_84 : BitVec 32 := 1#32
  ⟨c0_i32_82, v166, c1_i32_84⟩
def k0_off206 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk193 (v218 : IVec S16 32) : Prop :=
  (∀ a x, ((![v218] : Fin 1 → IVec S16 32) a x).toNat < S16384.size a)
theorem k0_idx193_inb : ∀ (v218 : IVec S16 32) (k0_hw193 : k0_chk193 v218), ∀ a x, ((![v218] : Fin 1 → IVec S16 32) a x).toNat < S16384.size a := fun v218 k0_hw193 => k0_hw193
def k0_off207 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk194 (v225 : IVec S16 32) : Prop :=
  (∀ a x, ((![v225] : Fin 1 → IVec S16 32) a x).toNat < S16384.size a)
theorem k0_idx194_inb : ∀ (v225 : IVec S16 32) (k0_hw194 : k0_chk194 v225), ∀ a x, ((![v225] : Fin 1 → IVec S16 32) a x).toNat < S16384.size a := fun v225 k0_hw194 => k0_hw194
def k0_off208 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk195 (v232 : IVec S16 32) : Prop :=
  (∀ a x, ((![v232] : Fin 1 → IVec S16 32) a x).toNat < S16384.size a)
theorem k0_idx195_inb : ∀ (v232 : IVec S16 32) (k0_hw195 : k0_chk195 v232), ∀ a x, ((![v232] : Fin 1 → IVec S16 32) a x).toNat < S16384.size a := fun v232 k0_hw195 => k0_hw195
def k0_off209 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk196 (v239 : IVec S16 32) : Prop :=
  (∀ a x, ((![v239] : Fin 1 → IVec S16 32) a x).toNat < S16384.size a)
theorem k0_idx196_inb : ∀ (v239 : IVec S16 32) (k0_hw196 : k0_chk196 v239), ∀ a x, ((![v239] : Fin 1 → IVec S16 32) a x).toNat < S16384.size a := fun v239 k0_hw196 => k0_hw196
def k0_off210 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk197 (v246 : IVec S16 32) : Prop :=
  (∀ a x, ((![v246] : Fin 1 → IVec S16 32) a x).toNat < S16384.size a)
theorem k0_idx197_inb : ∀ (v246 : IVec S16 32) (k0_hw197 : k0_chk197 v246), ∀ a x, ((![v246] : Fin 1 → IVec S16 32) a x).toNat < S16384.size a := fun v246 k0_hw197 => k0_hw197
def k0_off211 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk198 (v253 : IVec S16 32) : Prop :=
  (∀ a x, ((![v253] : Fin 1 → IVec S16 32) a x).toNat < S16384.size a)
theorem k0_idx198_inb : ∀ (v253 : IVec S16 32) (k0_hw198 : k0_chk198 v253), ∀ a x, ((![v253] : Fin 1 → IVec S16 32) a x).toNat < S16384.size a := fun v253 k0_hw198 => k0_hw198
def k0_off212 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk199 (v260 : IVec S16 32) : Prop :=
  (∀ a x, ((![v260] : Fin 1 → IVec S16 32) a x).toNat < S16384.size a)
theorem k0_idx199_inb : ∀ (v260 : IVec S16 32) (k0_hw199 : k0_chk199 v260), ∀ a x, ((![v260] : Fin 1 → IVec S16 32) a x).toNat < S16384.size a := fun v260 k0_hw199 => k0_hw199
def k0_off213 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk200 (v267 : IVec S16 32) : Prop :=
  (∀ a x, ((![v267] : Fin 1 → IVec S16 32) a x).toNat < S16384.size a)
theorem k0_idx200_inb : ∀ (v267 : IVec S16 32) (k0_hw200 : k0_chk200 v267), ∀ a x, ((![v267] : Fin 1 → IVec S16 32) a x).toNat < S16384.size a := fun v267 k0_hw200 => k0_hw200
def k0_off214 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk201 (v274 : IVec S16 32) : Prop :=
  (∀ a x, ((![v274] : Fin 1 → IVec S16 32) a x).toNat < S16384.size a)
theorem k0_idx201_inb : ∀ (v274 : IVec S16 32) (k0_hw201 : k0_chk201 v274), ∀ a x, ((![v274] : Fin 1 → IVec S16 32) a x).toNat < S16384.size a := fun v274 k0_hw201 => k0_hw201
def k0_off215 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk202 (v281 : IVec S16 32) : Prop :=
  (∀ a x, ((![v281] : Fin 1 → IVec S16 32) a x).toNat < S16384.size a)
theorem k0_idx202_inb : ∀ (v281 : IVec S16 32) (k0_hw202 : k0_chk202 v281), ∀ a x, ((![v281] : Fin 1 → IVec S16 32) a x).toNat < S16384.size a := fun v281 k0_hw202 => k0_hw202
def k0_off216 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk203 (v288 : IVec S16 32) : Prop :=
  (∀ a x, ((![v288] : Fin 1 → IVec S16 32) a x).toNat < S16384.size a)
theorem k0_idx203_inb : ∀ (v288 : IVec S16 32) (k0_hw203 : k0_chk203 v288), ∀ a x, ((![v288] : Fin 1 → IVec S16 32) a x).toNat < S16384.size a := fun v288 k0_hw203 => k0_hw203
def k0_off217 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk204 (v295 : IVec S16 32) : Prop :=
  (∀ a x, ((![v295] : Fin 1 → IVec S16 32) a x).toNat < S16384.size a)
theorem k0_idx204_inb : ∀ (v295 : IVec S16 32) (k0_hw204 : k0_chk204 v295), ∀ a x, ((![v295] : Fin 1 → IVec S16 32) a x).toNat < S16384.size a := fun v295 k0_hw204 => k0_hw204
def k0_off218 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk205 (v302 : IVec S16 32) : Prop :=
  (∀ a x, ((![v302] : Fin 1 → IVec S16 32) a x).toNat < S16384.size a)
theorem k0_idx205_inb : ∀ (v302 : IVec S16 32) (k0_hw205 : k0_chk205 v302), ∀ a x, ((![v302] : Fin 1 → IVec S16 32) a x).toNat < S16384.size a := fun v302 k0_hw205 => k0_hw205
def k0_off219 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk206 (v309 : IVec S16 32) : Prop :=
  (∀ a x, ((![v309] : Fin 1 → IVec S16 32) a x).toNat < S16384.size a)
theorem k0_idx206_inb : ∀ (v309 : IVec S16 32) (k0_hw206 : k0_chk206 v309), ∀ a x, ((![v309] : Fin 1 → IVec S16 32) a x).toNat < S16384.size a := fun v309 k0_hw206 => k0_hw206
def k0_off220 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk207 (v316 : IVec S16 32) : Prop :=
  (∀ a x, ((![v316] : Fin 1 → IVec S16 32) a x).toNat < S16384.size a)
theorem k0_idx207_inb : ∀ (v316 : IVec S16 32) (k0_hw207 : k0_chk207 v316), ∀ a x, ((![v316] : Fin 1 → IVec S16 32) a x).toNat < S16384.size a := fun v316 k0_hw207 => k0_hw207
def k0_off221 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk208 (v323 : IVec S16 32) : Prop :=
  (∀ a x, ((![v323] : Fin 1 → IVec S16 32) a x).toNat < S16384.size a)
theorem k0_idx208_inb : ∀ (v323 : IVec S16 32) (k0_hw208 : k0_chk208 v323), ∀ a x, ((![v323] : Fin 1 → IVec S16 32) a x).toNat < S16384.size a := fun v323 k0_hw208 => k0_hw208
def k0_off222 (k0_t13 : Fin k0_t13_loop.trips) : Fin 1 → Nat :=
  let c0_i32_111 : BitVec 32 := 0#32
  let c0_i32_82 : BitVec 32 := 0#32
  let c1_i32_84 : BitVec 32 := 1#32
  let arg14 : BitVec 32 := Scf.iv c0_i32_82 c1_i32_84 k0_t13
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t14_loop : Scf.Loop 32 :=
  let c0_i32_89 : BitVec 32 := 0#32
  let c64_i32_90 : BitVec 32 := 64#32
  let v179 : BitVec 32 := Scalar.addi c0_i32_89 c64_i32_90
  let c1_i32_91 : BitVec 32 := 1#32
  ⟨c0_i32_89, v179, c1_i32_91⟩
def k0_off223 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk209 (v218 : IVec S16 32) : Prop :=
  (∀ a x, ((![v218] : Fin 1 → IVec S16 32) a x).toNat < S16384.size a)
theorem k0_idx209_inb : ∀ (v218 : IVec S16 32) (k0_hw209 : k0_chk209 v218), ∀ a x, ((![v218] : Fin 1 → IVec S16 32) a x).toNat < S16384.size a := fun v218 k0_hw209 => k0_hw209
def k0_off224 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk210 (v225 : IVec S16 32) : Prop :=
  (∀ a x, ((![v225] : Fin 1 → IVec S16 32) a x).toNat < S16384.size a)
theorem k0_idx210_inb : ∀ (v225 : IVec S16 32) (k0_hw210 : k0_chk210 v225), ∀ a x, ((![v225] : Fin 1 → IVec S16 32) a x).toNat < S16384.size a := fun v225 k0_hw210 => k0_hw210
def k0_off225 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk211 (v232 : IVec S16 32) : Prop :=
  (∀ a x, ((![v232] : Fin 1 → IVec S16 32) a x).toNat < S16384.size a)
theorem k0_idx211_inb : ∀ (v232 : IVec S16 32) (k0_hw211 : k0_chk211 v232), ∀ a x, ((![v232] : Fin 1 → IVec S16 32) a x).toNat < S16384.size a := fun v232 k0_hw211 => k0_hw211
def k0_off226 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk212 (v239 : IVec S16 32) : Prop :=
  (∀ a x, ((![v239] : Fin 1 → IVec S16 32) a x).toNat < S16384.size a)
theorem k0_idx212_inb : ∀ (v239 : IVec S16 32) (k0_hw212 : k0_chk212 v239), ∀ a x, ((![v239] : Fin 1 → IVec S16 32) a x).toNat < S16384.size a := fun v239 k0_hw212 => k0_hw212
def k0_off227 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk213 (v246 : IVec S16 32) : Prop :=
  (∀ a x, ((![v246] : Fin 1 → IVec S16 32) a x).toNat < S16384.size a)
theorem k0_idx213_inb : ∀ (v246 : IVec S16 32) (k0_hw213 : k0_chk213 v246), ∀ a x, ((![v246] : Fin 1 → IVec S16 32) a x).toNat < S16384.size a := fun v246 k0_hw213 => k0_hw213
def k0_off228 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk214 (v253 : IVec S16 32) : Prop :=
  (∀ a x, ((![v253] : Fin 1 → IVec S16 32) a x).toNat < S16384.size a)
theorem k0_idx214_inb : ∀ (v253 : IVec S16 32) (k0_hw214 : k0_chk214 v253), ∀ a x, ((![v253] : Fin 1 → IVec S16 32) a x).toNat < S16384.size a := fun v253 k0_hw214 => k0_hw214
def k0_off229 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk215 (v260 : IVec S16 32) : Prop :=
  (∀ a x, ((![v260] : Fin 1 → IVec S16 32) a x).toNat < S16384.size a)
theorem k0_idx215_inb : ∀ (v260 : IVec S16 32) (k0_hw215 : k0_chk215 v260), ∀ a x, ((![v260] : Fin 1 → IVec S16 32) a x).toNat < S16384.size a := fun v260 k0_hw215 => k0_hw215
def k0_off230 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk216 (v267 : IVec S16 32) : Prop :=
  (∀ a x, ((![v267] : Fin 1 → IVec S16 32) a x).toNat < S16384.size a)
theorem k0_idx216_inb : ∀ (v267 : IVec S16 32) (k0_hw216 : k0_chk216 v267), ∀ a x, ((![v267] : Fin 1 → IVec S16 32) a x).toNat < S16384.size a := fun v267 k0_hw216 => k0_hw216
def k0_off231 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk217 (v274 : IVec S16 32) : Prop :=
  (∀ a x, ((![v274] : Fin 1 → IVec S16 32) a x).toNat < S16384.size a)
theorem k0_idx217_inb : ∀ (v274 : IVec S16 32) (k0_hw217 : k0_chk217 v274), ∀ a x, ((![v274] : Fin 1 → IVec S16 32) a x).toNat < S16384.size a := fun v274 k0_hw217 => k0_hw217
def k0_off232 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk218 (v281 : IVec S16 32) : Prop :=
  (∀ a x, ((![v281] : Fin 1 → IVec S16 32) a x).toNat < S16384.size a)
theorem k0_idx218_inb : ∀ (v281 : IVec S16 32) (k0_hw218 : k0_chk218 v281), ∀ a x, ((![v281] : Fin 1 → IVec S16 32) a x).toNat < S16384.size a := fun v281 k0_hw218 => k0_hw218
def k0_off233 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk219 (v288 : IVec S16 32) : Prop :=
  (∀ a x, ((![v288] : Fin 1 → IVec S16 32) a x).toNat < S16384.size a)
theorem k0_idx219_inb : ∀ (v288 : IVec S16 32) (k0_hw219 : k0_chk219 v288), ∀ a x, ((![v288] : Fin 1 → IVec S16 32) a x).toNat < S16384.size a := fun v288 k0_hw219 => k0_hw219
def k0_off234 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk220 (v295 : IVec S16 32) : Prop :=
  (∀ a x, ((![v295] : Fin 1 → IVec S16 32) a x).toNat < S16384.size a)
theorem k0_idx220_inb : ∀ (v295 : IVec S16 32) (k0_hw220 : k0_chk220 v295), ∀ a x, ((![v295] : Fin 1 → IVec S16 32) a x).toNat < S16384.size a := fun v295 k0_hw220 => k0_hw220
def k0_off235 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk221 (v302 : IVec S16 32) : Prop :=
  (∀ a x, ((![v302] : Fin 1 → IVec S16 32) a x).toNat < S16384.size a)
theorem k0_idx221_inb : ∀ (v302 : IVec S16 32) (k0_hw221 : k0_chk221 v302), ∀ a x, ((![v302] : Fin 1 → IVec S16 32) a x).toNat < S16384.size a := fun v302 k0_hw221 => k0_hw221
def k0_off236 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk222 (v309 : IVec S16 32) : Prop :=
  (∀ a x, ((![v309] : Fin 1 → IVec S16 32) a x).toNat < S16384.size a)
theorem k0_idx222_inb : ∀ (v309 : IVec S16 32) (k0_hw222 : k0_chk222 v309), ∀ a x, ((![v309] : Fin 1 → IVec S16 32) a x).toNat < S16384.size a := fun v309 k0_hw222 => k0_hw222
def k0_off237 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk223 (v316 : IVec S16 32) : Prop :=
  (∀ a x, ((![v316] : Fin 1 → IVec S16 32) a x).toNat < S16384.size a)
theorem k0_idx223_inb : ∀ (v316 : IVec S16 32) (k0_hw223 : k0_chk223 v316), ∀ a x, ((![v316] : Fin 1 → IVec S16 32) a x).toNat < S16384.size a := fun v316 k0_hw223 => k0_hw223
def k0_off238 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk224 (v323 : IVec S16 32) : Prop :=
  (∀ a x, ((![v323] : Fin 1 → IVec S16 32) a x).toNat < S16384.size a)
theorem k0_idx224_inb : ∀ (v323 : IVec S16 32) (k0_hw224 : k0_chk224 v323), ∀ a x, ((![v323] : Fin 1 → IVec S16 32) a x).toNat < S16384.size a := fun v323 k0_hw224 => k0_hw224
def k0_off239 (k0_t14 : Fin k0_t14_loop.trips) : Fin 1 → Nat :=
  let c0_i32_111 : BitVec 32 := 0#32
  let c0_i32_89 : BitVec 32 := 0#32
  let c1_i32_91 : BitVec 32 := 1#32
  let arg14 : BitVec 32 := Scf.iv c0_i32_89 c1_i32_91 k0_t14
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t15_loop : Scf.Loop 32 :=
  let c0_i32_96 : BitVec 32 := 0#32
  let c64_i32_97 : BitVec 32 := 64#32
  let v192 : BitVec 32 := Scalar.addi c0_i32_96 c64_i32_97
  let c1_i32_98 : BitVec 32 := 1#32
  ⟨c0_i32_96, v192, c1_i32_98⟩
def k0_off240 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk225 (v218 : IVec S16 32) : Prop :=
  (∀ a x, ((![v218] : Fin 1 → IVec S16 32) a x).toNat < S16384.size a)
theorem k0_idx225_inb : ∀ (v218 : IVec S16 32) (k0_hw225 : k0_chk225 v218), ∀ a x, ((![v218] : Fin 1 → IVec S16 32) a x).toNat < S16384.size a := fun v218 k0_hw225 => k0_hw225
def k0_off241 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk226 (v225 : IVec S16 32) : Prop :=
  (∀ a x, ((![v225] : Fin 1 → IVec S16 32) a x).toNat < S16384.size a)
theorem k0_idx226_inb : ∀ (v225 : IVec S16 32) (k0_hw226 : k0_chk226 v225), ∀ a x, ((![v225] : Fin 1 → IVec S16 32) a x).toNat < S16384.size a := fun v225 k0_hw226 => k0_hw226
def k0_off242 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk227 (v232 : IVec S16 32) : Prop :=
  (∀ a x, ((![v232] : Fin 1 → IVec S16 32) a x).toNat < S16384.size a)
theorem k0_idx227_inb : ∀ (v232 : IVec S16 32) (k0_hw227 : k0_chk227 v232), ∀ a x, ((![v232] : Fin 1 → IVec S16 32) a x).toNat < S16384.size a := fun v232 k0_hw227 => k0_hw227
def k0_off243 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk228 (v239 : IVec S16 32) : Prop :=
  (∀ a x, ((![v239] : Fin 1 → IVec S16 32) a x).toNat < S16384.size a)
theorem k0_idx228_inb : ∀ (v239 : IVec S16 32) (k0_hw228 : k0_chk228 v239), ∀ a x, ((![v239] : Fin 1 → IVec S16 32) a x).toNat < S16384.size a := fun v239 k0_hw228 => k0_hw228
def k0_off244 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk229 (v246 : IVec S16 32) : Prop :=
  (∀ a x, ((![v246] : Fin 1 → IVec S16 32) a x).toNat < S16384.size a)
theorem k0_idx229_inb : ∀ (v246 : IVec S16 32) (k0_hw229 : k0_chk229 v246), ∀ a x, ((![v246] : Fin 1 → IVec S16 32) a x).toNat < S16384.size a := fun v246 k0_hw229 => k0_hw229
def k0_off245 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk230 (v253 : IVec S16 32) : Prop :=
  (∀ a x, ((![v253] : Fin 1 → IVec S16 32) a x).toNat < S16384.size a)
theorem k0_idx230_inb : ∀ (v253 : IVec S16 32) (k0_hw230 : k0_chk230 v253), ∀ a x, ((![v253] : Fin 1 → IVec S16 32) a x).toNat < S16384.size a := fun v253 k0_hw230 => k0_hw230
def k0_off246 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk231 (v260 : IVec S16 32) : Prop :=
  (∀ a x, ((![v260] : Fin 1 → IVec S16 32) a x).toNat < S16384.size a)
theorem k0_idx231_inb : ∀ (v260 : IVec S16 32) (k0_hw231 : k0_chk231 v260), ∀ a x, ((![v260] : Fin 1 → IVec S16 32) a x).toNat < S16384.size a := fun v260 k0_hw231 => k0_hw231
def k0_off247 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk232 (v267 : IVec S16 32) : Prop :=
  (∀ a x, ((![v267] : Fin 1 → IVec S16 32) a x).toNat < S16384.size a)
theorem k0_idx232_inb : ∀ (v267 : IVec S16 32) (k0_hw232 : k0_chk232 v267), ∀ a x, ((![v267] : Fin 1 → IVec S16 32) a x).toNat < S16384.size a := fun v267 k0_hw232 => k0_hw232
def k0_off248 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk233 (v274 : IVec S16 32) : Prop :=
  (∀ a x, ((![v274] : Fin 1 → IVec S16 32) a x).toNat < S16384.size a)
theorem k0_idx233_inb : ∀ (v274 : IVec S16 32) (k0_hw233 : k0_chk233 v274), ∀ a x, ((![v274] : Fin 1 → IVec S16 32) a x).toNat < S16384.size a := fun v274 k0_hw233 => k0_hw233
def k0_off249 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk234 (v281 : IVec S16 32) : Prop :=
  (∀ a x, ((![v281] : Fin 1 → IVec S16 32) a x).toNat < S16384.size a)
theorem k0_idx234_inb : ∀ (v281 : IVec S16 32) (k0_hw234 : k0_chk234 v281), ∀ a x, ((![v281] : Fin 1 → IVec S16 32) a x).toNat < S16384.size a := fun v281 k0_hw234 => k0_hw234
def k0_off250 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk235 (v288 : IVec S16 32) : Prop :=
  (∀ a x, ((![v288] : Fin 1 → IVec S16 32) a x).toNat < S16384.size a)
theorem k0_idx235_inb : ∀ (v288 : IVec S16 32) (k0_hw235 : k0_chk235 v288), ∀ a x, ((![v288] : Fin 1 → IVec S16 32) a x).toNat < S16384.size a := fun v288 k0_hw235 => k0_hw235
def k0_off251 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk236 (v295 : IVec S16 32) : Prop :=
  (∀ a x, ((![v295] : Fin 1 → IVec S16 32) a x).toNat < S16384.size a)
theorem k0_idx236_inb : ∀ (v295 : IVec S16 32) (k0_hw236 : k0_chk236 v295), ∀ a x, ((![v295] : Fin 1 → IVec S16 32) a x).toNat < S16384.size a := fun v295 k0_hw236 => k0_hw236
def k0_off252 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk237 (v302 : IVec S16 32) : Prop :=
  (∀ a x, ((![v302] : Fin 1 → IVec S16 32) a x).toNat < S16384.size a)
theorem k0_idx237_inb : ∀ (v302 : IVec S16 32) (k0_hw237 : k0_chk237 v302), ∀ a x, ((![v302] : Fin 1 → IVec S16 32) a x).toNat < S16384.size a := fun v302 k0_hw237 => k0_hw237
def k0_off253 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk238 (v309 : IVec S16 32) : Prop :=
  (∀ a x, ((![v309] : Fin 1 → IVec S16 32) a x).toNat < S16384.size a)
theorem k0_idx238_inb : ∀ (v309 : IVec S16 32) (k0_hw238 : k0_chk238 v309), ∀ a x, ((![v309] : Fin 1 → IVec S16 32) a x).toNat < S16384.size a := fun v309 k0_hw238 => k0_hw238
def k0_off254 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk239 (v316 : IVec S16 32) : Prop :=
  (∀ a x, ((![v316] : Fin 1 → IVec S16 32) a x).toNat < S16384.size a)
theorem k0_idx239_inb : ∀ (v316 : IVec S16 32) (k0_hw239 : k0_chk239 v316), ∀ a x, ((![v316] : Fin 1 → IVec S16 32) a x).toNat < S16384.size a := fun v316 k0_hw239 => k0_hw239
def k0_off255 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk240 (v323 : IVec S16 32) : Prop :=
  (∀ a x, ((![v323] : Fin 1 → IVec S16 32) a x).toNat < S16384.size a)
theorem k0_idx240_inb : ∀ (v323 : IVec S16 32) (k0_hw240 : k0_chk240 v323), ∀ a x, ((![v323] : Fin 1 → IVec S16 32) a x).toNat < S16384.size a := fun v323 k0_hw240 => k0_hw240
def k0_off256 (k0_t15 : Fin k0_t15_loop.trips) : Fin 1 → Nat :=
  let c0_i32_111 : BitVec 32 := 0#32
  let c0_i32_96 : BitVec 32 := 0#32
  let c1_i32_98 : BitVec 32 := 1#32
  let arg14 : BitVec 32 := Scf.iv c0_i32_96 c1_i32_98 k0_t15
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
@[reducible] def k0_t16_loop : Scf.Loop 32 :=
  let c0_i32_103 : BitVec 32 := 0#32
  let c64_i32_104 : BitVec 32 := 64#32
  let v202 : BitVec 32 := Scalar.addi c0_i32_103 c64_i32_104
  let c1_i32_105 : BitVec 32 := 1#32
  ⟨c0_i32_103, v202, c1_i32_105⟩
def k0_off257 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32 : BitVec 32 := 16#32
  let v214 : BitVec 32 := Scalar.muli v213 c16_i32
  let v215 : Index := Scalar.indexCast v214
  ![v215.toNat]

def k0_chk241 (v218 : IVec S16 32) : Prop :=
  (∀ a x, ((![v218] : Fin 1 → IVec S16 32) a x).toNat < S16384.size a)
theorem k0_idx241_inb : ∀ (v218 : IVec S16 32) (k0_hw241 : k0_chk241 v218), ∀ a x, ((![v218] : Fin 1 → IVec S16 32) a x).toNat < S16384.size a := fun v218 k0_hw241 => k0_hw241
def k0_off258 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_113 : BitVec 32 := 16#32
  let v220 : BitVec 32 := Scalar.muli v213 c16_i32_113
  let c0_i32_114 : BitVec 32 := 0#32
  let v221 : BitVec 32 := Scalar.addi v220 c0_i32_114
  let v222 : Index := Scalar.indexCast v221
  ![v222.toNat]

def k0_chk242 (v225 : IVec S16 32) : Prop :=
  (∀ a x, ((![v225] : Fin 1 → IVec S16 32) a x).toNat < S16384.size a)
theorem k0_idx242_inb : ∀ (v225 : IVec S16 32) (k0_hw242 : k0_chk242 v225), ∀ a x, ((![v225] : Fin 1 → IVec S16 32) a x).toNat < S16384.size a := fun v225 k0_hw242 => k0_hw242
def k0_off259 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_116 : BitVec 32 := 16#32
  let v227 : BitVec 32 := Scalar.muli v213 c16_i32_116
  let c1024_i32_117 : BitVec 32 := 1024#32
  let v228 : BitVec 32 := Scalar.addi v227 c1024_i32_117
  let v229 : Index := Scalar.indexCast v228
  ![v229.toNat]

def k0_chk243 (v232 : IVec S16 32) : Prop :=
  (∀ a x, ((![v232] : Fin 1 → IVec S16 32) a x).toNat < S16384.size a)
theorem k0_idx243_inb : ∀ (v232 : IVec S16 32) (k0_hw243 : k0_chk243 v232), ∀ a x, ((![v232] : Fin 1 → IVec S16 32) a x).toNat < S16384.size a := fun v232 k0_hw243 => k0_hw243
def k0_off260 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_118 : BitVec 32 := 16#32
  let v234 : BitVec 32 := Scalar.muli v213 c16_i32_118
  let c2048_i32_119 : BitVec 32 := 2048#32
  let v235 : BitVec 32 := Scalar.addi v234 c2048_i32_119
  let v236 : Index := Scalar.indexCast v235
  ![v236.toNat]

def k0_chk244 (v239 : IVec S16 32) : Prop :=
  (∀ a x, ((![v239] : Fin 1 → IVec S16 32) a x).toNat < S16384.size a)
theorem k0_idx244_inb : ∀ (v239 : IVec S16 32) (k0_hw244 : k0_chk244 v239), ∀ a x, ((![v239] : Fin 1 → IVec S16 32) a x).toNat < S16384.size a := fun v239 k0_hw244 => k0_hw244
def k0_off261 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_120 : BitVec 32 := 16#32
  let v241 : BitVec 32 := Scalar.muli v213 c16_i32_120
  let c3072_i32_121 : BitVec 32 := 3072#32
  let v242 : BitVec 32 := Scalar.addi v241 c3072_i32_121
  let v243 : Index := Scalar.indexCast v242
  ![v243.toNat]

def k0_chk245 (v246 : IVec S16 32) : Prop :=
  (∀ a x, ((![v246] : Fin 1 → IVec S16 32) a x).toNat < S16384.size a)
theorem k0_idx245_inb : ∀ (v246 : IVec S16 32) (k0_hw245 : k0_chk245 v246), ∀ a x, ((![v246] : Fin 1 → IVec S16 32) a x).toNat < S16384.size a := fun v246 k0_hw245 => k0_hw245
def k0_off262 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_122 : BitVec 32 := 16#32
  let v248 : BitVec 32 := Scalar.muli v213 c16_i32_122
  let c4096_i32_123 : BitVec 32 := 4096#32
  let v249 : BitVec 32 := Scalar.addi v248 c4096_i32_123
  let v250 : Index := Scalar.indexCast v249
  ![v250.toNat]

def k0_chk246 (v253 : IVec S16 32) : Prop :=
  (∀ a x, ((![v253] : Fin 1 → IVec S16 32) a x).toNat < S16384.size a)
theorem k0_idx246_inb : ∀ (v253 : IVec S16 32) (k0_hw246 : k0_chk246 v253), ∀ a x, ((![v253] : Fin 1 → IVec S16 32) a x).toNat < S16384.size a := fun v253 k0_hw246 => k0_hw246
def k0_off263 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_124 : BitVec 32 := 16#32
  let v255 : BitVec 32 := Scalar.muli v213 c16_i32_124
  let c5120_i32_125 : BitVec 32 := 5120#32
  let v256 : BitVec 32 := Scalar.addi v255 c5120_i32_125
  let v257 : Index := Scalar.indexCast v256
  ![v257.toNat]

def k0_chk247 (v260 : IVec S16 32) : Prop :=
  (∀ a x, ((![v260] : Fin 1 → IVec S16 32) a x).toNat < S16384.size a)
theorem k0_idx247_inb : ∀ (v260 : IVec S16 32) (k0_hw247 : k0_chk247 v260), ∀ a x, ((![v260] : Fin 1 → IVec S16 32) a x).toNat < S16384.size a := fun v260 k0_hw247 => k0_hw247
def k0_off264 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_126 : BitVec 32 := 16#32
  let v262 : BitVec 32 := Scalar.muli v213 c16_i32_126
  let c6144_i32_127 : BitVec 32 := 6144#32
  let v263 : BitVec 32 := Scalar.addi v262 c6144_i32_127
  let v264 : Index := Scalar.indexCast v263
  ![v264.toNat]

def k0_chk248 (v267 : IVec S16 32) : Prop :=
  (∀ a x, ((![v267] : Fin 1 → IVec S16 32) a x).toNat < S16384.size a)
theorem k0_idx248_inb : ∀ (v267 : IVec S16 32) (k0_hw248 : k0_chk248 v267), ∀ a x, ((![v267] : Fin 1 → IVec S16 32) a x).toNat < S16384.size a := fun v267 k0_hw248 => k0_hw248
def k0_off265 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_128 : BitVec 32 := 16#32
  let v269 : BitVec 32 := Scalar.muli v213 c16_i32_128
  let c7168_i32_129 : BitVec 32 := 7168#32
  let v270 : BitVec 32 := Scalar.addi v269 c7168_i32_129
  let v271 : Index := Scalar.indexCast v270
  ![v271.toNat]

def k0_chk249 (v274 : IVec S16 32) : Prop :=
  (∀ a x, ((![v274] : Fin 1 → IVec S16 32) a x).toNat < S16384.size a)
theorem k0_idx249_inb : ∀ (v274 : IVec S16 32) (k0_hw249 : k0_chk249 v274), ∀ a x, ((![v274] : Fin 1 → IVec S16 32) a x).toNat < S16384.size a := fun v274 k0_hw249 => k0_hw249
def k0_off266 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_130 : BitVec 32 := 16#32
  let v276 : BitVec 32 := Scalar.muli v213 c16_i32_130
  let c8192_i32_131 : BitVec 32 := 8192#32
  let v277 : BitVec 32 := Scalar.addi v276 c8192_i32_131
  let v278 : Index := Scalar.indexCast v277
  ![v278.toNat]

def k0_chk250 (v281 : IVec S16 32) : Prop :=
  (∀ a x, ((![v281] : Fin 1 → IVec S16 32) a x).toNat < S16384.size a)
theorem k0_idx250_inb : ∀ (v281 : IVec S16 32) (k0_hw250 : k0_chk250 v281), ∀ a x, ((![v281] : Fin 1 → IVec S16 32) a x).toNat < S16384.size a := fun v281 k0_hw250 => k0_hw250
def k0_off267 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_132 : BitVec 32 := 16#32
  let v283 : BitVec 32 := Scalar.muli v213 c16_i32_132
  let c9216_i32_133 : BitVec 32 := 9216#32
  let v284 : BitVec 32 := Scalar.addi v283 c9216_i32_133
  let v285 : Index := Scalar.indexCast v284
  ![v285.toNat]

def k0_chk251 (v288 : IVec S16 32) : Prop :=
  (∀ a x, ((![v288] : Fin 1 → IVec S16 32) a x).toNat < S16384.size a)
theorem k0_idx251_inb : ∀ (v288 : IVec S16 32) (k0_hw251 : k0_chk251 v288), ∀ a x, ((![v288] : Fin 1 → IVec S16 32) a x).toNat < S16384.size a := fun v288 k0_hw251 => k0_hw251
def k0_off268 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_134 : BitVec 32 := 16#32
  let v290 : BitVec 32 := Scalar.muli v213 c16_i32_134
  let c10240_i32_135 : BitVec 32 := 10240#32
  let v291 : BitVec 32 := Scalar.addi v290 c10240_i32_135
  let v292 : Index := Scalar.indexCast v291
  ![v292.toNat]

def k0_chk252 (v295 : IVec S16 32) : Prop :=
  (∀ a x, ((![v295] : Fin 1 → IVec S16 32) a x).toNat < S16384.size a)
theorem k0_idx252_inb : ∀ (v295 : IVec S16 32) (k0_hw252 : k0_chk252 v295), ∀ a x, ((![v295] : Fin 1 → IVec S16 32) a x).toNat < S16384.size a := fun v295 k0_hw252 => k0_hw252
def k0_off269 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_136 : BitVec 32 := 16#32
  let v297 : BitVec 32 := Scalar.muli v213 c16_i32_136
  let c11264_i32_137 : BitVec 32 := 11264#32
  let v298 : BitVec 32 := Scalar.addi v297 c11264_i32_137
  let v299 : Index := Scalar.indexCast v298
  ![v299.toNat]

def k0_chk253 (v302 : IVec S16 32) : Prop :=
  (∀ a x, ((![v302] : Fin 1 → IVec S16 32) a x).toNat < S16384.size a)
theorem k0_idx253_inb : ∀ (v302 : IVec S16 32) (k0_hw253 : k0_chk253 v302), ∀ a x, ((![v302] : Fin 1 → IVec S16 32) a x).toNat < S16384.size a := fun v302 k0_hw253 => k0_hw253
def k0_off270 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_138 : BitVec 32 := 16#32
  let v304 : BitVec 32 := Scalar.muli v213 c16_i32_138
  let c12288_i32_139 : BitVec 32 := 12288#32
  let v305 : BitVec 32 := Scalar.addi v304 c12288_i32_139
  let v306 : Index := Scalar.indexCast v305
  ![v306.toNat]

def k0_chk254 (v309 : IVec S16 32) : Prop :=
  (∀ a x, ((![v309] : Fin 1 → IVec S16 32) a x).toNat < S16384.size a)
theorem k0_idx254_inb : ∀ (v309 : IVec S16 32) (k0_hw254 : k0_chk254 v309), ∀ a x, ((![v309] : Fin 1 → IVec S16 32) a x).toNat < S16384.size a := fun v309 k0_hw254 => k0_hw254
def k0_off271 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_140 : BitVec 32 := 16#32
  let v311 : BitVec 32 := Scalar.muli v213 c16_i32_140
  let c13312_i32_141 : BitVec 32 := 13312#32
  let v312 : BitVec 32 := Scalar.addi v311 c13312_i32_141
  let v313 : Index := Scalar.indexCast v312
  ![v313.toNat]

def k0_chk255 (v316 : IVec S16 32) : Prop :=
  (∀ a x, ((![v316] : Fin 1 → IVec S16 32) a x).toNat < S16384.size a)
theorem k0_idx255_inb : ∀ (v316 : IVec S16 32) (k0_hw255 : k0_chk255 v316), ∀ a x, ((![v316] : Fin 1 → IVec S16 32) a x).toNat < S16384.size a := fun v316 k0_hw255 => k0_hw255
def k0_off272 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_142 : BitVec 32 := 16#32
  let v318 : BitVec 32 := Scalar.muli v213 c16_i32_142
  let c14336_i32_143 : BitVec 32 := 14336#32
  let v319 : BitVec 32 := Scalar.addi v318 c14336_i32_143
  let v320 : Index := Scalar.indexCast v319
  ![v320.toNat]

def k0_chk256 (v323 : IVec S16 32) : Prop :=
  (∀ a x, ((![v323] : Fin 1 → IVec S16 32) a x).toNat < S16384.size a)
theorem k0_idx256_inb : ∀ (v323 : IVec S16 32) (k0_hw256 : k0_chk256 v323), ∀ a x, ((![v323] : Fin 1 → IVec S16 32) a x).toNat < S16384.size a := fun v323 k0_hw256 => k0_hw256
def k0_off273 (k0_t16 : Fin k0_t16_loop.trips) : Fin 1 → Nat :=
  let c0_i32_111 : BitVec 32 := 0#32
  let c0_i32_103 : BitVec 32 := 0#32
  let c1_i32_105 : BitVec 32 := 1#32
  let arg14 : BitVec 32 := Scf.iv c0_i32_103 c1_i32_105 k0_t16
  let c1_i32_110 : BitVec 32 := 1#32
  let v212 : BitVec 32 := Scalar.muli arg14 c1_i32_110
  let v213 : BitVec 32 := Scalar.addi c0_i32_111 v212
  let c16_i32_144 : BitVec 32 := 16#32
  let v325 : BitVec 32 := Scalar.muli v213 c16_i32_144
  let c15360_i32_145 : BitVec 32 := 15360#32
  let v326 : BitVec 32 := Scalar.addi v325 c15360_i32_145
  let v327 : Index := Scalar.indexCast v326
  ![v327.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x2048x1024 : Shape := ⟨3, ![4, 2048, 1024]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S1x1, .i32⟩
  | .hbm, ⟨15, _⟩ => ⟨S1024x1, .i32⟩
  | .hbm, ⟨16, _⟩ => ⟨S1024x1, .i1⟩
  | .hbm, ⟨17, _⟩ => ⟨S1024x1, .i1⟩
  | .hbm, ⟨18, _⟩ => ⟨S_, .i1⟩
  | .hbm, ⟨19, _⟩ => ⟨S1024, .i1⟩
  | .hbm, ⟨20, _⟩ => ⟨S4x2048x1024, .f32⟩
  | .hbm, ⟨21, _⟩ => ⟨S4x2048x1024, .i1⟩
  | .hbm, ⟨22, _⟩ => ⟨S_, .f32⟩
  | .hbm, ⟨23, _⟩ => ⟨S4x2048x1024, .f32⟩
  | .hbm, ⟨24, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Program.lean ====
/-
  The kernel as one short program: a trip of the permuting loop is sixteen row steps, a chunk is the loop
  between its copies, and a vector subcore's task is the sixteen chunks of its share of the array, taken
  alternately through two pairs of buffers. The printed kernel is this program (`kernel_eq`).
-/
module

public import proofs.«01_k».proof.Proof.Gen.KernelIdeal

@[expose] public section

noncomputable section

namespace Cert.Proof.Prog

open Cert.KernelIdeal Cert.KernelIdeal.Facts₀ Cert.KernelIdeal.Facts
open Idealize.ShloMosaic Idealize.SL.Sem

/-! ## Offsets -/

/-- A trip number of the loop over the column groups. -/
abbrev Trip : Type := Fin k0_t1_loop.trips

/-- The word `16 · k` at trip `k`: the first column of the group. -/
def colWord (k : Trip) : BitVec 32 :=
  Scalar.muli (Scalar.addi 0#32 (Scalar.muli (Scf.iv 0#32 1#32 k) 1#32)) 16#32

/-- Where the group's columns start in the permutation, -/
def colOff (k : Trip) : Fin 1 → Nat := ![(Scalar.indexCast (colWord k)).toNat]

/-- and in the row that starts at element `w` of a chunk. -/
def rowOff (k : Trip) (w : BitVec 32) : Fin 1 → Nat := ![(Scalar.indexCast (Scalar.addi (colWord k) w)).toNat]

theorem trip_lt (k : Trip) : k.val < 64 := by
  have h : k0_t1_loop.trips = 64 := by decide +kernel
  exact h ▸ k.isLt

theorem colWord_toNat : ∀ k : Trip, (colWord k).toNat = 16 * k.val := by decide +kernel

theorem colOff_zero (k : Trip) : colOff k 0 = 16 * k.val := colWord_toNat k

/-- The word `1024 · r`: where row `r` of a chunk starts. -/
abbrev rowWord (r : Nat) : BitVec 32 := BitVec.ofNat 32 (1024 * r)

theorem rowOff_zero (k : Trip) {r : Nat} (hr : r < 16) : rowOff k (rowWord r) 0 = 1024 * r + 16 * k.val := by
  show (colWord k + BitVec.ofNat 32 (1024 * r)).toNat = _
  have := colWord_toNat k; have := trip_lt k
  rw [BitVec.toNat_add, BitVec.toNat_ofNat]; omega

theorem colOff_inb (k : Trip) : ∀ a, colOff k a + S16.size a ≤ S1024.size a := by
  intro a; obtain rfl : a = 0 := Subsingleton.elim _ _
  rw [colOff_zero]; have := trip_lt k; show 16 * k.val + 16 ≤ 1024; omega

theorem rowOff_inb (k : Trip) {r : Nat} (hr : r < 16) : ∀ a, rowOff k (rowWord r) a + S16.size a ≤ S16384.size a := by
  intro a; obtain rfl : a = 0 := Subsingleton.elim _ _
  rw [rowOff_zero k hr]; have := trip_lt k; show 1024 * r + 16 * k.val + 16 ≤ 16384; omega

/-! ## The program -/

variable {F : FTy → Type} [FloatOps F]

/-- The programs of the vector subcore at grid point `i`. -/
abbrev TP (F : FTy → Type) [FloatOps F] (i : grid0.Coords) : Type → Type _ :=
  Prog (TpuEff nD τ sig (Elt F) Λ₀ (.scVector ((i 0).castLE hcore0) ((i 1).castLE hsub0)))

/-- One pair of buffers: a chunk arrives in `inb` under `semI` and leaves from `outb` under `semO`. -/
structure Lane where
  inb : Memref sig .scVector .vmem S16384 .f32
  hin : inb.IsWhole
  outb : Memref sig .scVector .vmem S16384 .f32
  hout : outb.IsWhole
  semI : DmaSems sig S_
  semO : DmaSems sig S_

section

variable (i : grid0.Coords)
variable (X : Memref sig .scVector .hbm S8388608 .f32) (Y : Memref sig .scVector .hbm S8388608 .f32)
variable (Pm : Memref sig .scVector .hbm S1024 .i32) (hPm : Pm.IsWhole)
variable (ix : Memref sig .scVector .vmem S1024 .i32) (hix : ix.IsWhole)
variable (L : Lane)

/-- One row of a column group, before what follows it: the sixteen elements of row `r` the words `v` name are read
    from the arrived chunk and stored at the group's columns of row `r` of the leaving one. -/
def rowStep (k : Trip) (v : Vec F S16 .i32) (r : Nat) (hr : r < 16) (next : TP F i PUnit) : TP F i PUnit := do
  have idx : IVec S16 32 := addi v (broadcast S16 (rowWord r))
  have hw : k0_chk1 idx := (← Prog.lift (TpuEff.assume (k0_chk1 idx) (k0_chk1.dec idx))).down
  let g : Vec F S16 .f32 ← SparseCore.vectorLoadIdx L.inb ![idx] hw (View.loads_vmem h_S16384)
  let _ : Vec F S16 .f32 ← Prog.lift (.load L.outb (Rect.unit (s := S16384) (rowOff k (rowWord r)) S16.size (rowOff_inb k hr)).toLoadRect (View.loadsAt_vmem h_S16))
  Prog.lift (.store L.outb (Rect.unit (s := S16384) (rowOff k (rowWord r)) S16.size (rowOff_inb k hr)) g Finset.univ (View.stores_vmem_bits_univ h_S16 rfl) (.inl rfl))
  next

/-- The last `n` rows of a column group. -/
def rows (k : Trip) (v : Vec F S16 .i32) : (n : Nat) → n ≤ 16 → TP F i PUnit
  | 0, _ => pure ⟨⟩
  | n + 1, h => rowStep i L k v (16 - (n + 1)) (by omega) (rows k v n (Nat.le_of_succ_le h))

/-- One trip: the group's sixteen words of the permutation, then its sixteen rows. -/
def trip (k : Trip) : TP F i PUnit := do
  let v : Vec F S16 .i32 ← Prog.lift (.load ix (Rect.unit (s := S1024) (colOff k) S16.size (colOff_inb k)).toLoadRect (View.loadsAt_vmem h_S16))
  rows i L k v 16 (Nat.le_refl 16)

/-- The loop over the 64 column groups. -/
def loop : TP F i PUnit :=
  Scf.Loop.for k0_t1_loop k0_t1_ok ⟨⟩ fun k _ => trip i ix L k

/-- Chunk `c` of the subcore's share of an array. -/
abbrev chunk (A : Memref sig .scVector .hbm S8388608 .f32) (c : Nat) (hc : c < 16) : Memref sig .scVector .hbm S16384 .f32 :=
  A.slice (Rect.unit (s := S8388608) (k0_off1 i (BitVec.ofNat 32 (16384 * c))) S16384.size (k0_off1_inb i ⟨c, hc⟩)) (fun _ => rfl)

/-- Start chunk `c`'s copy in, -/
def startIn (c : Nat) (hc : c < 16) : TP F i PUnit :=
  Prog.lift (.enqueueDma (chunk i X c hc) (.here L.inb) (.dma L.semI.sem) (View.wordExact_bits rfl) L.hin.wordExact ⟨Or.inl rfl, trivial⟩)
/-- wait for it, -/
def waitIn (c : Nat) (hc : c < 16) : TP F i PUnit :=
  Prog.lift (.waitDma2 L.semI.sem (chunk i X c hc) L.inb (View.wordExact_bits rfl) L.hin.wordExact)
/-- start its copy out, -/
def startOut (c : Nat) (hc : c < 16) : TP F i PUnit :=
  Prog.lift (.enqueueDma L.outb (.here (chunk i Y c hc)) (.dma L.semO.sem) L.hout.wordExact (View.wordExact_bits rfl) ⟨Or.inl rfl, trivial⟩)
/-- wait for that. -/
def waitOut (c : Nat) (hc : c < 16) : TP F i PUnit :=
  Prog.lift (.waitDma2 L.semO.sem L.outb (chunk i Y c hc) L.hout.wordExact (View.wordExact_bits rfl))

/-- A lane's first chunk: nothing is leaving yet. -/
def firstChunk (c : Nat) (hc : c + 2 < 16) : TP F i PUnit := do
  waitIn i X L c (by omega)
  loop i ix L
  startOut i Y L c (by omega)
  startIn i X L (c + 2) hc

/-- A chunk after it: the chunk before the last has to have left. -/
def midChunk (c : Nat) (hc : c + 4 < 16) : TP F i PUnit := do
  waitIn i X L (c + 2) (by omega)
  waitOut i Y L c (by omega)
  loop i ix L
  startOut i Y L (c + 2) (by omega)
  startIn i X L (c + 4) hc

/-- A lane's last chunk: no other one comes. -/
def lastChunk (c : Nat) (hc : c + 2 < 16) : TP F i PUnit := do
  waitIn i X L (c + 2) (by omega)
  waitOut i Y L c (by omega)
  loop i ix L
  startOut i Y L (c + 2) (by omega)

variable (A B : Lane)

/-- `n` pairs of middle chunks, one on each lane. -/
def pairs : (n : Nat) → n ≤ 6 → TP F i PUnit
  | 0, _ => pure ⟨⟩
  | n + 1, h => do
    pairs n (Nat.le_of_succ_le h)
    midChunk i X Y ix A (2 * n) (by omega)
    midChunk i X Y ix B (2 * n + 1) (by omega)

/-- The task of a vector subcore. -/
def task (sem : DmaSems sig S_) : TP F i PUnit := do
  Prog.lift (.enqueueDma Pm (.here ix) (.dma sem.sem) hPm.wordExact hix.wordExact ⟨Or.inl rfl, trivial⟩)
  Prog.lift (.waitDma2 sem.sem Pm ix hPm.wordExact hix.wordExact)
  startIn i X A 0 (by omega)
  startIn i X B 1 (by omega)
  firstChunk i X Y ix A 0 (by omega)
  firstChunk i X Y ix B 1 (by omega)
  pairs i X Y ix A B 6 (Nat.le_refl 6)
  lastChunk i X Y ix A 12 (by omega)
  lastChunk i X Y ix B 13 (by omega)
  waitOut i Y A 14 (by omega)
  waitOut i Y B 15 (by omega)

end

/-! ## The printed kernel is the task

It is printed in seven windows: each is the steps it prints, and the windows in order are the task. -/

/-- The first element of the subcore's share, as a word. -/
abbrev base (i : grid0.Coords) : BitVec 32 :=
  Scalar.muli (Scalar.muli (Scalar.addi (Scalar.muli (BitVec.ofNat 32 (i 1).val) 2#32) (BitVec.ofNat 32 (i 0).val)) 256#32) 1024#32

section

set_option maxRecDepth 100000
set_option maxHeartbeats 4000000

variable (i : grid0.Coords) (arg2 : Memref sig .scVector .hbm S8388608 .f32) (harg2 : arg2.IsWhole)
    (arg3 : Memref sig .scVector .hbm S1024 .i32) (harg3 : arg3.IsWhole)
    (arg4 : Memref sig .scVector .hbm S8388608 .f32) (harg4 : arg4.IsWhole)
    (arg5 : Memref sig .scVector .vmem S1024 .i32) (harg5 : arg5.IsWhole)
    (arg6 : Memref sig .scVector .vmem S16384 .f32) (harg6 : arg6.IsWhole)
    (arg7 : Memref sig .scVector .vmem S16384 .f32) (harg7 : arg7.IsWhole)
    (arg8 : Memref sig .scVector .vmem S16384 .f32) (harg8 : arg8.IsWhole)
    (arg9 : Memref sig .scVector .vmem S16384 .f32) (harg9 : arg9.IsWhole)
    (arg10 arg11 arg12 arg13 v212_r0 : DmaSems sig S_)

/-- The first window is its steps. -/
theorem window1 : k0_part49 (F := F) i arg2 harg2 arg3 harg3 arg4 harg4 arg5 harg5 arg6 harg6 arg7 harg7 arg8 harg8 arg9 harg9 arg10 arg11 arg12 arg13 v212_r0 = (do
    Prog.lift (.enqueueDma arg3 (.here arg5) (.dma v212_r0.sem) harg3.wordExact harg5.wordExact ⟨Or.inl rfl, trivial⟩)
    Prog.lift (.waitDma2 v212_r0.sem arg3 arg5 harg3.wordExact harg5.wordExact)
    startIn i arg2 ⟨arg6, harg6, arg8, harg8, arg10, arg12⟩ 0 (by omega)
    startIn i arg2 ⟨arg7, harg7, arg9, harg9, arg11, arg13⟩ 1 (by omega)
    waitIn i arg2 ⟨arg6, harg6, arg8, harg8, arg10, arg12⟩ 0 (by omega)
    loop i arg5 ⟨arg6, harg6, arg8, harg8, arg10, arg12⟩
    startOut i arg4 ⟨arg6, harg6, arg8, harg8, arg10, arg12⟩ 0 (by omega)
    startIn i arg2 ⟨arg6, harg6, arg8, harg8, arg10, arg12⟩ 2 (by omega)
    waitIn i arg2 ⟨arg7, harg7, arg9, harg9, arg11, arg13⟩ 1 (by omega)
    loop i arg5 ⟨arg7, harg7, arg9, harg9, arg11, arg13⟩
    startOut i arg4 ⟨arg7, harg7, arg9, harg9, arg11, arg13⟩ 1 (by omega)
    pure (base i) : TP F i (BitVec 32)) := rfl

/-- The second window is its steps. -/
theorem window2 (v3 : BitVec 32) : k0_part50 (F := F) i arg2 harg2 arg3 harg3 arg4 harg4 arg5 harg5 arg6 harg6 arg7 harg7 arg8 harg8 arg9 harg9 arg10 arg11 arg12 arg13 v212_r0 v3 = (do
    startIn i arg2 ⟨arg7, harg7, arg9, harg9, arg11, arg13⟩ 3 (by omega)
    waitIn i arg2 ⟨arg6, harg6, arg8, harg8, arg10, arg12⟩ 2 (by omega)
    waitOut i arg4 ⟨arg6, harg6, arg8, harg8, arg10, arg12⟩ 0 (by omega)
    loop i arg5 ⟨arg6, harg6, arg8, harg8, arg10, arg12⟩
    startOut i arg4 ⟨arg6, harg6, arg8, harg8, arg10, arg12⟩ 2 (by omega)
    startIn i arg2 ⟨arg6, harg6, arg8, harg8, arg10, arg12⟩ 4 (by omega)
    waitIn i arg2 ⟨arg7, harg7, arg9, harg9, arg11, arg13⟩ 3 (by omega)
    waitOut i arg4 ⟨arg7, harg7, arg9, harg9, arg11, arg13⟩ 1 (by omega)
    loop i arg5 ⟨arg7, harg7, arg9, harg9, arg11, arg13⟩
    startOut i arg4 ⟨arg7, harg7, arg9, harg9, arg11, arg13⟩ 3 (by omega)
    startIn i arg2 ⟨arg7, harg7, arg9, harg9, arg11, arg13⟩ 5 (by omega)
    waitIn i arg2 ⟨arg6, harg6, arg8, harg8, arg10, arg12⟩ 4 (by omega)
    pure ⟨⟩ : TP F i PUnit) := rfl

/-- The third window is its steps. -/
theorem window3 (v3 : BitVec 32) : k0_part51 (F := F) i arg2 harg2 arg3 harg3 arg4 harg4 arg5 harg5 arg6 harg6 arg7 harg7 arg8 harg8 arg9 harg9 arg10 arg11 arg12 arg13 v212_r0 v3 = (do
    waitOut i arg4 ⟨arg6, harg6, arg8, harg8, arg10, arg12⟩ 2 (by omega)
    loop i arg5 ⟨arg6, harg6, arg8, harg8, arg10, arg12⟩
    startOut i arg4 ⟨arg6, harg6, arg8, harg8, arg10, arg12⟩ 4 (by omega)
    startIn i arg2 ⟨arg6, harg6, arg8, harg8, arg10, arg12⟩ 6 (by omega)
    waitIn i arg2 ⟨arg7, harg7, arg9, harg9, arg11, arg13⟩ 5 (by omega)
    waitOut i arg4 ⟨arg7, harg7, arg9, harg9, arg11, arg13⟩ 3 (by omega)
    loop i arg5 ⟨arg7, harg7, arg9, harg9, arg11, arg13⟩
    startOut i arg4 ⟨arg7, harg7, arg9, harg9, arg11, arg13⟩ 5 (by omega)
    startIn i arg2 ⟨arg7, harg7, arg9, harg9, arg11, arg13⟩ 7 (by omega)
    waitIn i arg2 ⟨arg6, harg6, arg8, harg8, arg10, arg12⟩ 6 (by omega)
    waitOut i arg4 ⟨arg6, harg6, arg8, harg8, arg10, arg12⟩ 4 (by omega)
    pure 0#32 : TP F i (BitVec 32)) := rfl

/-- The fourth window is its steps. -/
theorem window4 (v3 : BitVec 32) : k0_part52 (F := F) i arg2 harg2 arg3 harg3 arg4 harg4 arg5 harg5 arg6 harg6 arg7 harg7 arg8 harg8 arg9 harg9 arg10 arg11 arg12 arg13 v212_r0 v3 0#32 = (do
    loop i arg5 ⟨arg6, harg6, arg8, harg8, arg10, arg12⟩
    startOut i arg4 ⟨arg6, harg6, arg8, harg8, arg10, arg12⟩ 6 (by omega)
    startIn i arg2 ⟨arg6, harg6, arg8, harg8, arg10, arg12⟩ 8 (by omega)
    waitIn i arg2 ⟨arg7, harg7, arg9, harg9, arg11, arg13⟩ 7 (by omega)
    waitOut i arg4 ⟨arg7, harg7, arg9, harg9, arg11, arg13⟩ 5 (by omega)
    loop i arg5 ⟨arg7, harg7, arg9, harg9, arg11, arg13⟩
    startOut i arg4 ⟨arg7, harg7, arg9, harg9, arg11, arg13⟩ 7 (by omega)
    startIn i arg2 ⟨arg7, harg7, arg9, harg9, arg11, arg13⟩ 9 (by omega)
    waitIn i arg2 ⟨arg6, harg6, arg8, harg8, arg10, arg12⟩ 8 (by omega)
    waitOut i arg4 ⟨arg6, harg6, arg8, harg8, arg10, arg12⟩ 6 (by omega)
    loop i arg5 ⟨arg6, harg6, arg8, harg8, arg10, arg12⟩
    startOut i arg4 ⟨arg6, harg6, arg8, harg8, arg10, arg12⟩ 8 (by omega)
    pure ⟨⟩ : TP F i PUnit) := rfl

/-- The fifth window is its steps. -/
theorem window5 (v3 : BitVec 32) : k0_part53 (F := F) i arg2 harg2 arg3 harg3 arg4 harg4 arg5 harg5 arg6 harg6 arg7 harg7 arg8 harg8 arg9 harg9 arg10 arg11 arg12 arg13 v212_r0 v3 = (do
    startIn i arg2 ⟨arg6, harg6, arg8, harg8, arg10, arg12⟩ 10 (by omega)
    waitIn i arg2 ⟨arg7, harg7, arg9, harg9, arg11, arg13⟩ 9 (by omega)
    waitOut i arg4 ⟨arg7, harg7, arg9, harg9, arg11, arg13⟩ 7 (by omega)
    loop i arg5 ⟨arg7, harg7, arg9, harg9, arg11, arg13⟩
    startOut i arg4 ⟨arg7, harg7, arg9, harg9, arg11, arg13⟩ 9 (by omega)
    startIn i arg2 ⟨arg7, harg7, arg9, harg9, arg11, arg13⟩ 11 (by omega)
    waitIn i arg2 ⟨arg6, harg6, arg8, harg8, arg10, arg12⟩ 10 (by omega)
    waitOut i arg4 ⟨arg6, harg6, arg8, harg8, arg10, arg12⟩ 8 (by omega)
    loop i arg5 ⟨arg6, harg6, arg8, harg8, arg10, arg12⟩
    startOut i arg4 ⟨arg6, harg6, arg8, harg8, arg10, arg12⟩ 10 (by omega)
    startIn i arg2 ⟨arg6, harg6, arg8, harg8, arg10, arg12⟩ 12 (by omega)
    pure ⟨⟩ : TP F i PUnit) := rfl

/-- The sixth window is its steps. -/
theorem window6 (v3 : BitVec 32) : k0_part54 (F := F) i arg2 harg2 arg3 harg3 arg4 harg4 arg5 harg5 arg6 harg6 arg7 harg7 arg8 harg8 arg9 harg9 arg10 arg11 arg12 arg13 v212_r0 v3 = (do
    waitIn i arg2 ⟨arg7, harg7, arg9, harg9, arg11, arg13⟩ 11 (by omega)
    waitOut i arg4 ⟨arg7, harg7, arg9, harg9, arg11, arg13⟩ 9 (by omega)
    loop i arg5 ⟨arg7, harg7, arg9, harg9, arg11, arg13⟩
    startOut i arg4 ⟨arg7, harg7, arg9, harg9, arg11, arg13⟩ 11 (by omega)
    startIn i arg2 ⟨arg7, harg7, arg9, harg9, arg11, arg13⟩ 13 (by omega)
    waitIn i arg2 ⟨arg6, harg6, arg8, harg8, arg10, arg12⟩ 12 (by omega)
    waitOut i arg4 ⟨arg6, harg6, arg8, harg8, arg10, arg12⟩ 10 (by omega)
    loop i arg5 ⟨arg6, harg6, arg8, harg8, arg10, arg12⟩
    startOut i arg4 ⟨arg6, harg6, arg8, harg8, arg10, arg12⟩ 12 (by omega)
    startIn i arg2 ⟨arg6, harg6, arg8, harg8, arg10, arg12⟩ 14 (by omega)
    waitIn i arg2 ⟨arg7, harg7, arg9, harg9, arg11, arg13⟩ 13 (by omega)
    waitOut i arg4 ⟨arg7, harg7, arg9, harg9, arg11, arg13⟩ 11 (by omega)
    pure 0#32 : TP F i (BitVec 32)) := rfl

/-- The seventh window is its steps. -/
theorem window7 (v3 : BitVec 32) : k0_part55 (F := F) i arg2 harg2 arg3 harg3 arg4 harg4 arg5 harg5 arg6 harg6 arg7 harg7 arg8 harg8 arg9 harg9 arg10 arg11 arg12 arg13 v212_r0 v3 0#32 = (do
    loop i arg5 ⟨arg7, harg7, arg9, harg9, arg11, arg13⟩
    startOut i arg4 ⟨arg7, harg7, arg9, harg9, arg11, arg13⟩ 13 (by omega)
    startIn i arg2 ⟨arg7, harg7, arg9, harg9, arg11, arg13⟩ 15 (by omega)
    waitIn i arg2 ⟨arg6, harg6, arg8, harg8, arg10, arg12⟩ 14 (by omega)
    waitOut i arg4 ⟨arg6, harg6, arg8, harg8, arg10, arg12⟩ 12 (by omega)
    loop i arg5 ⟨arg6, harg6, arg8, harg8, arg10, arg12⟩
    startOut i arg4 ⟨arg6, harg6, arg8, harg8, arg10, arg12⟩ 14 (by omega)
    waitIn i arg2 ⟨arg7, harg7, arg9, harg9, arg11, arg13⟩ 15 (by omega)
    waitOut i arg4 ⟨arg7, harg7, arg9, harg9, arg11, arg13⟩ 13 (by omega)
    loop i arg5 ⟨arg7, harg7, arg9, harg9, arg11, arg13⟩
    startOut i arg4 ⟨arg7, harg7, arg9, harg9, arg11, arg13⟩ 15 (by omega)
    pure ⟨⟩ : TP F i PUnit) := rfl

/-- The printed kernel is the task. -/
theorem kernel_eq : cc0__permute_sc (F := F) i arg2 harg2 arg3 harg3 arg4 harg4 arg5 harg5 arg6 harg6 arg7 harg7 arg8 harg8 arg9 harg9 arg10 arg11 arg12 arg13 v212_r0
    = task i arg2 arg4 arg3 harg3 arg5 harg5 ⟨arg6, harg6, arg8, harg8, arg10, arg12⟩ ⟨arg7, harg7, arg9, harg9, arg11, arg13⟩ v212_r0 := by
  have e : cc0__permute_sc (F := F) i arg2 harg2 arg3 harg3 arg4 harg4 arg5 harg5 arg6 harg6 arg7 harg7 arg8 harg8 arg9 harg9 arg10 arg11 arg12 arg13 v212_r0 = (do
      let v3 ← k0_part49 (F := F) i arg2 harg2 arg3 harg3 arg4 harg4 arg5 harg5 arg6 harg6 arg7 harg7 arg8 harg8 arg9 harg9 arg10 arg11 arg12 arg13 v212_r0
      k0_part50 i arg2 harg2 arg3 harg3 arg4 harg4 arg5 harg5 arg6 harg6 arg7 harg7 arg8 harg8 arg9 harg9 arg10 arg11 arg12 arg13 v212_r0 v3
      let z ← k0_part51 i arg2 harg2 arg3 harg3 arg4 harg4 arg5 harg5 arg6 harg6 arg7 harg7 arg8 harg8 arg9 harg9 arg10 arg11 arg12 arg13 v212_r0 v3
      k0_part52 i arg2 harg2 arg3 harg3 arg4 harg4 arg5 harg5 arg6 harg6 arg7 harg7 arg8 harg8 arg9 harg9 arg10 arg11 arg12 arg13 v212_r0 v3 z
      k0_part53 i arg2 harg2 arg3 harg3 arg4 harg4 arg5 harg5 arg6 harg6 arg7 harg7 arg8 harg8 arg9 harg9 arg10 arg11 arg12 arg13 v212_r0 v3
      let z ← k0_part54 i arg2 harg2 arg3 harg3 arg4 harg4 arg5 harg5 arg6 harg6 arg7 harg7 arg8 harg8 arg9 harg9 arg10 arg11 arg12 arg13 v212_r0 v3
      k0_part55 i arg2 harg2 arg3 harg3 arg4 harg4 arg5 harg5 arg6 harg6 arg7 harg7 arg8 harg8 arg9 harg9 arg10 arg11 arg12 arg13 v212_r0 v3 z
      waitOut i arg4 ⟨arg6, harg6, arg8, harg8, arg10, arg12⟩ 14 (by omega)
      waitOut i arg4 ⟨arg7, harg7, arg9, harg9, arg11, arg13⟩ 15 (by omega) : TP F i PUnit) := rfl
  rw [e]
  simp only [window1, window2, window3, window4, window5, window6, window7, task, firstChunk, midChunk, lastChunk, pairs,
    bind_assoc, pure_bind]

end

end Cert.Proof.Prog
-- ==== Proof.Values.lean ====
/-
  What the kernel's loop leaves in a chunk, as a function of the chunk that arrived and of the permutation, and how a
  row step brings a chunk nearer to it.
-/
module

public import proofs.«01_k».proof.Proof.Program
public import Idealize.ShloMosaic.Lib.SparseCore

@[expose] public section

noncomputable section

namespace Cert.Proof.Prog

open Cert.KernelIdeal Cert.KernelIdeal.Facts₀ Cert.KernelIdeal.Facts
open Idealize.ShloMosaic Idealize.SL.Sem

/-! ## Indices of an array of one axis -/

/-- The index whose coordinate is `n`, wrapped where `n` is past the end. -/
def pt (s : Shape) (hs : ∀ a, 0 < s.size a) (n : Nat) : s.Idx := fun a => ⟨n % s.size a, Nat.mod_lt _ (hs a)⟩

theorem pos_perm : ∀ a, 0 < S1024.size a := fun a => by obtain rfl : a = 0 := Subsingleton.elim _ _; show 0 < 1024; omega
theorem pos_chunk : ∀ a, 0 < S16384.size a := fun a => by obtain rfl : a = 0 := Subsingleton.elim _ _; show 0 < 16384; omega
theorem pos_array : ∀ a, 0 < S8388608.size a := fun a => by obtain rfl : a = 0 := Subsingleton.elim _ _; show 0 < 8388608; omega

/-- Entry `n` of the permutation, -/
abbrev ptP (n : Nat) : S1024.Idx := pt S1024 pos_perm n
/-- element `n` of a chunk, -/
abbrev ptC (n : Nat) : S16384.Idx := pt S16384 pos_chunk n
/-- element `n` of the whole array. -/
abbrev ptA (n : Nat) : S8388608.Idx := pt S8388608 pos_array n

theorem eq_ptP {x : S1024.Idx} {n : Nat} (h : (x 0).val = n) : x = ptP n := by
  funext a; obtain rfl : a = 0 := Subsingleton.elim _ _
  have : (x 0).val < 1024 := (x 0).isLt
  exact Fin.ext (show (x 0).val = n % 1024 by omega)
theorem eq_ptC {x : S16384.Idx} {n : Nat} (h : (x 0).val = n) : x = ptC n := by
  funext a; obtain rfl : a = 0 := Subsingleton.elim _ _
  have : (x 0).val < 16384 := (x 0).isLt
  exact Fin.ext (show (x 0).val = n % 16384 by omega)
theorem eq_ptA {x : S8388608.Idx} {n : Nat} (h : (x 0).val = n) : x = ptA n := by
  funext a; obtain rfl : a = 0 := Subsingleton.elim _ _
  have : (x 0).val < 8388608 := (x 0).isLt
  exact Fin.ext (show (x 0).val = n % 8388608 by omega)

/-! ## The permuted chunk and the permuted array -/

variable {α : Type}

/-- Every entry of the permutation names a column. -/
def InRange (p : S1024.Idx → BitVec 32) : Prop := ∀ x, (p x).toNat < 1024

/-- Where element `n` of an array of rows of 1024 comes from: its row, at the column the permutation names. -/
def source (p : S1024.Idx → BitVec 32) (n : Nat) : Nat := n / 1024 * 1024 + (p (ptP (n % 1024))).toNat

/-- A chunk with the columns of its rows permuted. -/
def permuted (p : S1024.Idx → BitVec 32) (a : S16384.Idx → α) : S16384.Idx → α := fun x => a (ptC (source p (x 0).val))

/-- The whole array with the columns of its rows permuted. -/
def permutedAll (p : S1024.Idx → BitVec 32) (a : S8388608.Idx → α) : S8388608.Idx → α := fun x => a (ptA (source p (x 0).val))

/-! ## Progress through a chunk -/

/-- `o` holds the permuted chunk at the columns of the first `k` groups, and at those of group `k` in the first `r`
    rows. -/
def Filled (p : S1024.Idx → BitVec 32) (a : S16384.Idx → α) (k r : Nat) (o : S16384.Idx → α) : Prop :=
  ∀ x : S16384.Idx, ((x 0).val % 1024 < 16 * k ∨ ((x 0).val % 1024 < 16 * (k + 1) ∧ (x 0).val / 1024 < r)) → o x = permuted p a x

theorem filled_start (p : S1024.Idx → BitVec 32) (a o : S16384.Idx → α) : Filled p a 0 0 o := fun x hx => by omega

/-- All sixteen rows of a group filled is the next group begun. -/
theorem Filled.next {p : S1024.Idx → BitVec 32} {a o : S16384.Idx → α} {k : Nat} (h : Filled p a k 16 o) : Filled p a (k + 1) 0 o :=
  fun x hx => h x (by have : (x 0).val < 16384 := (x 0).isLt; omega)

/-- All 64 groups filled is the permuted chunk. -/
theorem Filled.done {p : S1024.Idx → BitVec 32} {a o : S16384.Idx → α} (h : Filled p a 64 0 o) : o = permuted p a :=
  funext fun x => h x (by omega)

/-- The words group `k` of the permutation holds. -/
def IsGroup (p : S1024.Idx → BitVec 32) (k : Nat) (v : S16.Idx → BitVec 32) : Prop := ∀ y : S16.Idx, v y = p (ptP (16 * k + (y 0).val))

theorem IsGroup.lt {p : S1024.Idx → BitVec 32} {k : Nat} {v : S16.Idx → BitVec 32} (h : IsGroup p k v) (hp : InRange p) (y : S16.Idx) :
    (v y).toNat < 1024 := by rw [h y]; exact hp _

/-- The word a row step reads at: row `r`, at the column the word names. -/
theorem rowIdx_toNat {v : IVec S16 32} (hv : ∀ y, (v y).toNat < 1024) {r : Nat} (hr : r < 16) (y : S16.Idx) :
    (addi v (broadcast S16 (rowWord r)) y).toNat = 1024 * r + (v y).toNat := by
  show (v y + BitVec.ofNat 32 (1024 * r)).toNat = _
  have := hv y
  rw [BitVec.toNat_add, BitVec.toNat_ofNat]; omega

/-- So the step's check passes. -/
theorem rowChk {v : IVec S16 32} (hv : ∀ y, (v y).toNat < 1024) {r : Nat} (hr : r < 16) :
    k0_chk1 (addi v (broadcast S16 (rowWord r))) := by
  intro a x
  obtain rfl : a = 0 := Subsingleton.elim _ _
  show (addi v (broadcast S16 (rowWord r)) x).toNat < 16384
  rw [rowIdx_toNat hv hr]; have := hv x; omega

/-- The rectangle a row step stores at. -/
abbrev rowRect (k : Trip) (r : Nat) (hr : r < 16) : Rect S16384 := Rect.unit (s := S16384) (rowOff k (rowWord r)) S16.size (rowOff_inb k hr)

theorem rowRect_emb (k : Trip) {r : Nat} (hr : r < 16) (y : S16.Idx) :
    ((rowRect k r hr).emb y 0).val = 1024 * r + 16 * k.val + (y 0).val := by
  rw [Rect.emb_apply]
  show rowOff k (rowWord r) 0 + 1 * (y 0).val = _
  rw [rowOff_zero k hr, Nat.one_mul]

variable {F : FTy → Type}

/-- A row step fills one more row of its group. -/
theorem Filled.row {p : S1024.Idx → BitVec 32} {a : S16384.Idx → Elt F .f32} {k : Trip} {r : Nat} (hr : r < 16) {v : IVec S16 32}
    (hp : InRange p) (hv : IsGroup p k.val v) (hw : k0_chk1 (addi v (broadcast S16 (rowWord r))))
    {s : Space} (w : View sig .scVector s S16384 .f32) (f : w.ty.Contents (Elt F)) (h : Filled p a k.val r (w.read (Elt F) f)) :
    Filled p a k.val (r + 1) (w.read (Elt F) ((w.slice (rowRect k r hr)).write (Elt F) f
      (loadIdx a ![addi v (broadcast S16 (rowWord r))] hw) Finset.univ)) := by
  intro x hx
  have hlt : ∀ y, (v y).toNat < 1024 := hv.lt hp
  by_cases hm : x ∈ (Finset.univ : Finset (rowRect k r hr).shape.Idx).map (rowRect k r hr).emb
  · obtain ⟨y, -, rfl⟩ := Finset.mem_map.mp hm
    rw [View.read_slice_write_emb _ _ _ (Finset.mem_univ y)]
    have e := rowRect_emb k hr y
    have hy : (y 0).val < 16 := (y 0).isLt
    have hk := trip_lt k
    show a _ = a _
    refine congrArg a (eq_ptC ?_)
    show (addi v (broadcast S16 (rowWord r)) y).toNat = _
    rw [rowIdx_toNat hlt hr, e, source, show (1024 * r + 16 * k.val + (y 0).val) / 1024 = r by omega,
      show (1024 * r + 16 * k.val + (y 0).val) % 1024 = 16 * k.val + (y 0).val by omega, ← hv y]
    omega
  · rw [View.read_slice_write_of_not_mem _ _ _ _ hm]
    refine h x ?_
    rcases hx with hx | ⟨h1, h2⟩
    · exact .inl hx
    by_cases h3 : (x 0).val / 1024 < r
    · exact .inr ⟨h1, h3⟩
    by_cases h4 : (x 0).val % 1024 < 16 * k.val
    · exact .inl h4
    refine absurd (Finset.mem_map.mpr ⟨pt S16 (fun _ => by show 0 < ![16] _; simp) ((x 0).val % 1024 - 16 * k.val), Finset.mem_univ _, ?_⟩) hm
    funext b; obtain rfl : b = 0 := Subsingleton.elim _ _
    apply Fin.ext
    rw [rowRect_emb k hr]
    show 1024 * r + 16 * k.val + ((x 0).val % 1024 - 16 * k.val) % 16 = (x 0).val
    omega

end Cert.Proof.Prog
-- ==== Proof.Setup.lean ====
/-
  The program as the launch theorem of the SparseCore sees it, and the resources its proof is written over.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Prog

open Cert.KernelIdeal Cert.KernelIdeal.Facts₀ Cert.KernelIdeal.Facts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters

/-- The machine's assertions over them. -/
abbrev MM (F : FTy → Type) : Type := MT nD τ sig (HIx 1) (Elt F) ℕ UU ℕ

/-- The handshakes' part. -/
abbrev EH : Emb UH (MM F) := embL
/-- The transfers' part. -/
abbrev EC : UEmb Counters (MM F) := countersEmb

abbrev cV (i : grid0.Coords) : Fin τ.nSC := (i 0).castLE hcore0
abbrev jV (i : grid0.Coords) : Fin τ.nSub := (i 1).castLE hsub0
/-- The vector subcore at grid point `i` of device `d`. -/
abbrev VT (d : Dev nD) (i : grid0.Coords) : Thread nD τ := V d (cV i) (jV i)

end Cert.Proof.Prog
-- ==== Proof.Trip.lean ====
/-
  The loop over the column groups leaves the permuted chunk: one row step, the rows of a group, a trip, the loop.
-/
module

public import proofs.«01_k».proof.Proof.Setup

@[expose] public section

noncomputable section

namespace Cert.Proof.Prog

open Cert.KernelIdeal Cert.KernelIdeal.Facts₀ Cert.KernelIdeal.Facts
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A whole view read through the whole rectangle reads what it holds. -/
theorem read_access_all {κ : Kind} {sp : Space} {s : Shape} {e : EltTy} (b : Memref sig κ sp s e) (f : b.view.ty.Contents (Elt F)) :
    (b.access (.whole s)).read (Elt F) f = b.view.read (Elt F) f := by
  funext x
  show b.view.read (Elt F) f ((Rect.whole s).emb x) = _
  rw [Rect.emb_whole_apply]

variable (d : Dev nD) (i : grid0.Coords) (ix : Memref sig .scVector .vmem S1024 .i32) (L : Lane)

/-- A buffer of the subcore, at a value. -/
abbrev has {sp : Space} {s : Shape} {e : EltTy} (b : Memref sig .scVector sp s e) (q : PosShare TreeShare) (f : Buf (Elt F) (b.view.loc (VT d i))) : sProp (MM F) :=
  b.view.loc (VT d i) ↦[b.view.set]{q} f

/-- A row step: the row is filled. -/
theorem wp_rowStep {p : S1024.Idx → BitVec 32} (hp : InRange p) {k : Trip} {v : Vec F S16 .i32} (hv : IsGroup p k.val v) {r : Nat} (hr : r < 16)
    (f : Buf (Elt F) (L.inb.view.loc (VT d i))) (g : Buf (Elt F) (L.outb.view.loc (VT d i)))
    (hg : Filled p (L.inb.view.read (Elt F) f) k.val r (L.outb.view.read (Elt F) g)) (next : TP F i PUnit) (Q : PUnit → sProp (MM F)) :
    iprop(has d i L.inb fullShare f ∗ has d i L.outb fullShare g
        ∗ (∀ g', ⌜Filled p (L.inb.view.read (Elt F) f) k.val (r + 1) (L.outb.view.read (Elt F) g')⌝ -∗ has d i L.inb fullShare f -∗ has d i L.outb fullShare g'
            -∗ wp frame (wpE (defs₀ (F := F)) 𝒱₀ (VT d i) none) Set.univ next Q))
      ⊢ wp frame (wpE (defs₀ (F := F)) 𝒱₀ (VT d i) none) Set.univ (rowStep i L k v r hr next) Q := by
  unfold rowStep
  simp only [Prog.lift, Prog.bind_op, Prog.bind_ret]
  iintro ⟨Hf, Hg, HK⟩
  rw [wp_assume_of _ _ _ _ (rowChk (hv.lt hp) hr)]
  iapply (SparseCore.wp_vectorLoadIdx 𝒱₀ (VT d i) none Set.univ (base := L.inb) (S := L.inb.view.set) (q := fullShare) (View.set_slice_subset _ _)) $$ Hf
  iintro Hf
  rw [read_access_all]
  iapply (wp_load_rect 𝒱₀ (VT d i) none Set.univ (m := L.outb) (r := rowRect k r hr) (S := L.outb.view.set) (View.set_slice_subset _ _)) $$ Hg
  iintro Hg
  iapply (wp_store 𝒱₀ (VT d i) none Set.univ (m := L.outb) (r := rowRect k r hr) (Mk := Finset.univ) (S := L.outb.view.set) (View.set_slice_subset _ _)) $$ Hg
  iintro Hg
  iapply HK $$ [] [Hf] [Hg]
  · ipureintro
    exact hg.row hr hp hv (rowChk (hv.lt hp) hr) _ _
  · iexact Hf
  · iexact Hg

/-- The last `n` rows of a group: the group is filled. -/
theorem wp_rows {p : S1024.Idx → BitVec 32} (hp : InRange p) {k : Trip} {v : Vec F S16 .i32} (hv : IsGroup p k.val v)
    (f : Buf (Elt F) (L.inb.view.loc (VT d i))) : ∀ (n : Nat) (h : n ≤ 16) (g : Buf (Elt F) (L.outb.view.loc (VT d i)))
    (_ : Filled p (L.inb.view.read (Elt F) f) k.val (16 - n) (L.outb.view.read (Elt F) g)),
    iprop(has d i L.inb fullShare f ∗ has d i L.outb fullShare g)
      ⊢ wp frame (wpE (defs₀ (F := F)) 𝒱₀ (VT d i) none) Set.univ (rows i L k v n h) fun _ =>
        iprop(∃ g', ⌜Filled p (L.inb.view.read (Elt F) f) k.val 16 (L.outb.view.read (Elt F) g')⌝ ∗ has d i L.inb fullShare f ∗ has d i L.outb fullShare g')
  | 0, h, g, hg => by
    unfold rows
    iintro ⟨Hf, Hg⟩
    rw [Prog.pure_eq_ret, wp_ret]; imodintro
    iexists g
    isplitr; · ipureintro; exact hg
    isplitl [Hf] <;> iassumption
  | n + 1, h, g, hg => by
    unfold rows
    iintro ⟨Hf, Hg⟩
    iapply (wp_rowStep d i L hp hv _ f g hg _ _)
    isplitl [Hf]; · iexact Hf
    isplitl [Hg]; · iexact Hg
    iintro %g' %hg' Hf Hg
    iapply (wp_rows hp hv f n _ g' (by rwa [show 16 - (n + 1) + 1 = 16 - n by omega] at hg'))
    isplitl [Hf] <;> iassumption

/-- A trip reads a group of the permutation. -/
theorem isGroup_load (k : Trip) (fp : Buf (Elt F) (ix.view.loc (VT d i))) :
    IsGroup (ix.view.read (Elt F) fp) k.val (ix.view.readAt (Elt F) (Rect.unit (s := S1024) (colOff k) S16.size (colOff_inb k)).toLoadRect fp) := by
  intro y
  rw [View.readAt_apply]
  refine congrArg (ix.view.read (Elt F) fp) (eq_ptP ?_)
  rw [LoadRect.idx_apply]
  show colOff k 0 + 1 * (y 0).val = _
  rw [colOff_zero, Nat.one_mul]

/-- The loop leaves the permuted chunk. -/
theorem wp_loop {q : PosShare TreeShare} (fp : Buf (Elt F) (ix.view.loc (VT d i))) (hp : InRange (ix.view.read (Elt F) fp))
    (f : Buf (Elt F) (L.inb.view.loc (VT d i))) {β : Type} (kk : TP F i β) (Q : β → sProp (MM F)) :
    iprop(has d i ix q fp ∗ has d i L.inb fullShare f ∗ (∃ g, has d i L.outb fullShare g)
        ∗ ((has d i ix q fp ∗ has d i L.inb fullShare f ∗ ∃ g, ⌜L.outb.view.read (Elt F) g = permuted (ix.view.read (Elt F) fp) (L.inb.view.read (Elt F) f)⌝ ∗ has d i L.outb fullShare g)
            -∗ wp frame (wpE (defs₀ (F := F)) 𝒱₀ (VT d i) none) Set.univ kk Q))
      ⊢ wp frame (wpE (defs₀ (F := F)) 𝒱₀ (VT d i) none) Set.univ (loop i ix L >>= fun _ => kk) Q := by
  unfold loop
  iintro ⟨Hp, Hf, ⟨%g, Hg⟩, HK⟩
  iapply (Scf.wp_for_bind frame (wpE (defs₀ (F := F)) 𝒱₀ (VT d i) none) Set.univ _ _ _ k0_t1_ok PUnit.unit (fun k _ => trip i ix L k)
    (fun n _ => iprop(has d i ix q fp ∗ has d i L.inb fullShare f
      ∗ ∃ g, ⌜Filled (ix.view.read (Elt F) fp) (L.inb.view.read (Elt F) f) n 0 (L.outb.view.read (Elt F) g)⌝ ∗ has d i L.outb fullShare g)) ?body) $$ [Hp Hf Hg]
  case body =>
    intro k _
    iintro ⟨Hp, Hf, %g, %hg, Hg⟩
    unfold trip
    simp only [Prog.lift, Prog.bind_op, Prog.bind_ret]
    iapply (wp_load 𝒱₀ (VT d i) none Set.univ (m := ix) (S := ix.view.set) (Finset.map_subset_map.mpr (Finset.subset_univ _))) $$ Hp
    iintro Hp
    iapply wp_wand $$ [Hf Hg]
    · iapply (wp_rows d i L hp (isGroup_load d i ix k fp) f 16 (Nat.le_refl 16) g hg)
      isplitl [Hf] <;> iassumption
    iintro %_ ⟨%g', %hg', Hf, Hg⟩
    isplitl [Hp]; · iexact Hp
    isplitl [Hf]; · iexact Hf
    iexists g'
    isplitr; · ipureintro; exact hg'.next
    iexact Hg
  · isplitl [Hp]; · iexact Hp
    isplitl [Hf]; · iexact Hf
    iexists g
    isplitr; · ipureintro; exact filled_start _ _ _
    iexact Hg
  iintro %_ ⟨Hp, Hf, %g', %hg', Hg⟩
  iapply HK
  isplitl [Hp]; · iexact Hp
  isplitl [Hf]; · iexact Hf
  iexists g'
  isplitr
  · ipureintro
    have e : k0_t1_loop.trips = 64 := by decide +kernel
    exact Filled.done (e ▸ hg')
  iexact Hg

end Cert.Proof.Prog
-- ==== Proof.Chunks.lean ====
/-
  The chunks of a subcore's share: where they lie, that no two overlap, and what it is to have written some of them.
-/
module

public import proofs.«01_k».proof.Proof.Setup

@[expose] public section

noncomputable section

namespace Cert.Proof.Prog

open Cert.KernelIdeal Cert.KernelIdeal.Facts₀ Cert.KernelIdeal.Facts
open Idealize.ShloMosaic

variable {F : FTy → Type}

/-- Where chunk `c` of the subcore at `i` starts in the array. -/
def chunkOff (i : grid0.Coords) (c : Nat) : Nat := 524288 * (i 1).val + 262144 * (i 0).val + 16384 * c

/-- The rectangle of chunk `c`. -/
abbrev chunkRect (i : grid0.Coords) (c : Nat) (hc : c < 16) : Rect S8388608 :=
  Rect.unit (s := S8388608) (k0_off1 i (BitVec.ofNat 32 (16384 * c))) S16384.size (k0_off1_inb i ⟨c, hc⟩)

/-- Element `x` of chunk `c` is that far into the array. -/
theorem chunkRect_emb (i : grid0.Coords) (c : Nat) (hc : c < 16) (x : S16384.Idx) :
    ((chunkRect i c hc).emb x 0).val = chunkOff i c + (x 0).val := by
  rw [Rect.emb_apply]
  show k0_off1 i (BitVec.ofNat 32 (16384 * (⟨c, hc⟩ : Fin 16).val)) 0 + 1 * (x 0).val = _
  rw [Cert.KernelIdeal.Gen.k0_off1_eq i ⟨c, hc⟩, Nat.one_mul]
  rfl

section

variable (i : grid0.Coords) (A : Memref sig .scVector .hbm S8388608 .f32)

theorem chunk_emb (c : Nat) (hc : c < 16) (x : S16384.Idx) : (chunk i A c hc).view.emb x = A.view.emb ((chunkRect i c hc).emb x) := rfl

/-- Two chunks share no element. -/
theorem chunk_disjoint {c c' : Nat} (hc : c < 16) (hc' : c' < 16) (h : c ≠ c') :
    Disjoint (chunk i A c hc).view.set (chunk i A c' hc').view.set := by
  refine Finset.disjoint_left.mpr fun j hj hj' => ?_
  obtain ⟨x, -, rfl⟩ := Finset.mem_map.mp hj
  obtain ⟨y, -, e⟩ := Finset.mem_map.mp hj'
  rw [chunk_emb, chunk_emb] at e
  have e := congrArg (fun z : S8388608.Idx => (z 0).val) (A.view.emb.injective e)
  simp only [chunkRect_emb] at e
  have hx : (x 0).val < 16384 := (x 0).isLt
  have hy : (y 0).val < 16384 := (y 0).isLt
  unfold chunkOff at e
  omega

/-- The elements of the chunks a lane moves: those of one parity. -/
def laneSet (par : Nat) : Finset A.view.ty.Idx :=
  Finset.univ.biUnion fun c : Fin 16 => if c.val % 2 = par then (chunk i A c.val c.isLt).view.set else ∅

theorem chunk_subset {par c : Nat} (hc : c < 16) (hp : c % 2 = par) : (chunk i A c hc).view.set ⊆ laneSet i A par := by
  intro j hj
  refine Finset.mem_biUnion.mpr ⟨⟨c, hc⟩, Finset.mem_univ _, ?_⟩
  rw [if_pos hp]; exact hj

theorem exists_of_mem_laneSet {par : Nat} {j : A.view.ty.Idx} (hj : j ∈ laneSet i A par) :
    ∃ c, ∃ hc : c < 16, c % 2 = par ∧ j ∈ (chunk i A c hc).view.set := by
  obtain ⟨c, -, h⟩ := Finset.mem_biUnion.mp hj
  by_cases hp : c.val % 2 = par
  · rw [if_pos hp] at h; exact ⟨c.val, c.isLt, hp, h⟩
  · rw [if_neg hp] at h; exact absurd h (Finset.notMem_empty _)

/-- The lane's chunks before chunk `n` hold what `G` holds. -/
def Wrote (par : Nat) (G : A.view.ty.Contents (Elt F)) (n : Nat) (h : A.view.ty.Contents (Elt F)) : Prop :=
  ∀ c (hc : c < 16), c < n → c % 2 = par → (chunk i A c hc).view.read (Elt F) h = (chunk i A c hc).view.read (Elt F) G

variable {i A}

/-- Nothing written is nothing claimed. -/
theorem wrote_start {par : Nat} (G h : A.view.ty.Contents (Elt F)) : Wrote i A par G par h := fun c _ h1 h2 => by omega

/-- Writing the lane's next chunk. -/
theorem Wrote.write {par n : Nat} {G h : A.view.ty.Contents (Elt F)} (hw : Wrote i A par G n h) (hn : n < 16) (hp : n % 2 = par)
    {w : S16384.Idx → Elt F .f32} (hv : w = (chunk i A n hn).view.read (Elt F) G) :
    Wrote i A par G (n + 2) ((chunk i A n hn).view.write (Elt F) h w Finset.univ) := by
  intro c hc hlt hpc
  by_cases e : c = n
  · subst e; rw [View.read_write_univ, hv]
  · rw [← hw c hc (by omega) hpc]
    exact View.read_slice_write_slice_of_disjoint _ _ _ _ _ (chunk_disjoint i A hc hn e)

/-- All of the lane's chunks written: its elements hold what `G` holds. -/
theorem Wrote.done {par n : Nat} {G h : A.view.ty.Contents (Elt F)} (hw : Wrote i A par G n h) (hn : 16 ≤ n) :
    ∀ j ∈ laneSet i A par, h j = G j := by
  intro j hj
  obtain ⟨c, hc, hp, hm⟩ := exists_of_mem_laneSet i A hj
  obtain ⟨x, -, rfl⟩ := Finset.mem_map.mp hm
  have := congrFun (hw c hc (by omega) hp) x
  rw [View.read_apply, View.read_apply] at this
  exact (cast_bijective _).injective this

end

end Cert.Proof.Prog
-- ==== Proof.Steps.lean ====
/-
  The steps of a lane: starting and awaiting a chunk's copies, and the loop between them, over what the lane holds.
-/
module

public import proofs.«01_k».proof.Proof.Trip
public import proofs.«01_k».proof.Proof.Chunks

@[expose] public section

noncomputable section

namespace Cert.Proof.Prog

open Cert.KernelIdeal Cert.KernelIdeal.Facts₀ Cert.KernelIdeal.Facts
open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The runs of the vector subcore at `i` from which `Q` follows. -/
abbrev wpT (d : Dev nD) (i : grid0.Coords) {β : Type} (p : TP F i β) (Q : β → sProp (MM F)) : sProp (MM F) :=
  wp frame (wpE (defs₀ (F := F)) 𝒱₀ (VT d i) none) Set.univ p Q

section

variable (d : Dev nD) (i : grid0.Coords)
variable (X Y : Memref sig .scVector .hbm S8388608 .f32) (ix : Memref sig .scVector .vmem S1024 .i32)
variable (O : CellTallies nD τ sig (HIx 1)) (W : Waits sig (HIx 1))
variable (fX : Buf (Elt F) (X.view.loc (VT d i))) (G : Buf (Elt F) (Y.view.loc (VT d i))) (fp : Buf (Elt F) (ix.view.loc (VT d i)))
variable (qX qP : PosShare TreeShare) (L : Lane) (par : Nat)

/-- What the subcore owes, its waits so far at no task's index but the old ones'. -/
def Owed : sProp (MM F) := iprop(∃ W', ⌜∀ p ∈ W', p ∈ W ∨ p.2 = none⌝ ∗ owes (VT d i) O W')

/-- What all steps share: the fetched permutation, and that its waits are allowed. -/
def Env : sProp (MM F) := iprop(has d i ix qP fp ∗ □ MayWaits (VT d i) (none : HIx 1) O ∗ Owed d i O W)

/-- The lane's read share of the array. -/
abbrev srcPts : sProp (MM F) := X.view.loc (VT d i) ↦[Finset.univ]{qX} fX
/-- The lane's elements of the result, its chunks before chunk `n` written. -/
def dstPts (n : Nat) : sProp (MM F) := iprop(∃ h, ⌜Wrote i Y par G n h⌝ ∗ Y.view.loc (VT d i) ↦[laneSet i Y par]{fullShare} h)

/-- Nothing arriving. -/
def InFree : sProp (MM F) := iprop((∃ f, has d i L.inb fullShare f) ∗ semVal (VT d i, .dma L.semI.sem) 0 ∗ srcPts d i X fX qX)
/-- Chunk `c` arrived. -/
def Arrived (c : Nat) (hc : c < 16) : sProp (MM F) :=
  iprop((∃ f, ⌜L.inb.view.read (Elt F) f = (chunk i X c hc).view.read (Elt F) fX⌝ ∗ has d i L.inb fullShare f) ∗ semVal (VT d i, .dma L.semI.sem) 0 ∗ srcPts d i X fX qX)
/-- Chunk `c` arriving. -/
def Arriving (c : Nat) (hc : c < 16) : sProp (MM F) :=
  iprop(Flight EC (VT d i) (.dma L.semI.sem) none L.inb.view.dmaCredit
      iprop((∃ f, ⌜L.inb.view.read (Elt F) f = (chunk i X c hc).view.read (Elt F) fX⌝ ∗ has d i L.inb fullShare f)
        ∗ (chunk i X c hc).view.loc (VT d i) ↦[(chunk i X c hc).view.set]{qX} fX)
    ∗ X.view.loc (VT d i) ↦[Finset.univ \ (chunk i X c hc).view.set]{qX} fX)
/-- Nothing leaving, the chunks before chunk `n` written. -/
def OutFree (n : Nat) : sProp (MM F) :=
  iprop((∃ g, has d i L.outb fullShare g) ∗ semVal (VT d i, .dma L.semO.sem) 0 ∗ dstPts d i Y G par n)
/-- Chunk `c` ready to leave. -/
def Ready (c : Nat) (hc : c < 16) : sProp (MM F) :=
  iprop((∃ g, ⌜L.outb.view.read (Elt F) g = (chunk i Y c hc).view.read (Elt F) G⌝ ∗ has d i L.outb fullShare g)
    ∗ semVal (VT d i, .dma L.semO.sem) 0 ∗ dstPts d i Y G par c)
/-- Chunk `c` leaving. -/
def Leaving (c : Nat) (hc : c < 16) : sProp (MM F) :=
  Flight EC (VT d i) (.dma L.semO.sem) none (chunk i Y c hc).view.dmaCredit
    iprop(dstPts d i Y G par (c + 2) ∗ ∃ g, has d i L.outb fullShare g)

variable {β : Type} (kk : TP F i β) (Q : β → sProp (MM F))

theorem numel_chunk : 0 < S16384.numel := h_S16384

variable {d i X Y ix O W fX G fp qX qP L par kk Q}

/-- Starting a chunk's copy in. -/
theorem wp_startIn (c : Nat) (hc : c < 16) :
    iprop(InFree d i X fX qX L ∗ (Arriving d i X fX qX L c hc -∗ wpT d i kk Q)) ⊢ wpT d i (startIn i X L c hc >>= fun _ => kk) Q := by
  unfold startIn InFree
  simp only [Prog.lift, Prog.bind_op, Prog.bind_ret]
  iintro ⟨⟨⟨%f, Hf⟩, Hs, HX⟩, HK⟩
  ihave HX := (pointsTo_split_subset (I := (chunk i X c hc).view.set) (Finset.subset_univ _)).1 $$ HX
  icases HX with ⟨HX1, HX2⟩
  iapply (wp_dmaLocal EC 𝒱₀ (VT d i) none (src := chunk i X c hc) (dst := L.inb) (Sd := L.inb.view.set) (q := qX) (fs := fX) (fd := f) none
    L.inb.view.dmaCredit rfl (View.dmaCredit_pos _ numel_chunk) (Finset.Subset.refl _)) $$ [HX1 Hf Hs]
  · isplitl [HX1]; · iexact HX1
    isplitl [Hf] <;> iassumption
  iintro HFl
  iapply HK
  unfold Arriving
  isplitl [HFl]
  · iapply (Flight_mono EC (VT d i) ?_) $$ HFl
    iintro ⟨Hf, HX⟩
    isplitl [Hf]
    · iexists (L.inb.view.write (Elt F) f ((chunk i X c hc).view.read (Elt F) fX) Finset.univ)
      isplitr
      · ipureintro; exact View.read_write_univ _ _
      · iexact Hf
    · iexact HX
  · iexact HX2

/-- Awaiting it. -/
theorem wp_waitIn (c : Nat) (hc : c < 16) :
    iprop(Arriving d i X fX qX L c hc ∗ Env d i ix O W fp qP
        ∗ (Arrived d i X fX qX L c hc -∗ Env d i ix O W fp qP -∗ wpT d i kk Q)) ⊢ wpT d i (waitIn i X L c hc >>= fun _ => kk) Q := by
  unfold waitIn Arriving Env Owed
  simp only [Prog.lift, Prog.bind_op, Prog.bind_ret]
  iintro ⟨⟨HFl, HX2⟩, ⟨Hp, #Hmw, %W', %hW', HO⟩, HK⟩
  iapply (wp_waitLocalO EC 𝒱₀ (VT d i) none none (N := L.inb.view.dmaCredit) rfl) $$ [HFl HO]
  · isplitl [HFl]; · iexact HFl
    isplitl [HO]; · iexact HO
    iapply (MayWaits.elim (SemLoc.dma L.semI.sem)); iexact Hmw
  iintro ⟨⟨Hf, HX1⟩, Hs, HO⟩
  iapply HK $$ [Hf HX1 HX2 Hs] [Hp HO]
  · unfold Arrived
    isplitl [Hf]; · iexact Hf
    isplitl [Hs]; · iexact Hs
    iapply (pointsTo_split_subset (I := (chunk i X c hc).view.set) (Finset.subset_univ _)).2
    isplitl [HX1] <;> iassumption
  · isplitl [Hp]; · iexact Hp
    isplitr; · imodintro; iexact Hmw
    iexists (insert (SemLoc.dma L.semI.sem, (none : HIx 1)) W')
    isplitr
    · ipureintro; exact fun p hp => (Finset.mem_insert.mp hp).elim (fun e => .inr (congrArg Prod.snd e)) (hW' p)
    iexact HO

/-- Starting a chunk's copy out. -/
theorem wp_startOut (c : Nat) (hc : c < 16) (hp : c % 2 = par) :
    iprop(Ready d i Y G L par c hc ∗ (Leaving d i Y G L par c hc -∗ wpT d i kk Q)) ⊢ wpT d i (startOut i Y L c hc >>= fun _ => kk) Q := by
  unfold startOut Ready dstPts
  simp only [Prog.lift, Prog.bind_op, Prog.bind_ret]
  iintro ⟨⟨⟨%g, %hg, Hg⟩, Hs, %h, %hh, HY⟩, HK⟩
  iapply (wp_dmaLocal EC 𝒱₀ (VT d i) none (src := L.outb) (dst := chunk i Y c hc) (Sd := laneSet i Y par) (q := fullShare) (fs := g) (fd := h) none
    (chunk i Y c hc).view.dmaCredit rfl (View.dmaCredit_pos _ numel_chunk) (chunk_subset i Y hc hp)) $$ [HY Hg Hs]
  · isplitl [Hg]; · iexact Hg
    isplitl [HY] <;> iassumption
  iintro HFl
  iapply HK
  unfold Leaving
  iapply (Flight_mono EC (VT d i) ?_) $$ HFl
  iintro ⟨HY, Hg⟩
  isplitl [HY]
  · unfold dstPts
    iexists _
    isplitr
    · ipureintro; exact hh.write hc hp hg
    · iexact HY
  · iexists _; iexact Hg

/-- Awaiting it. -/
theorem wp_waitOut (c : Nat) (hc : c < 16) :
    iprop(Leaving d i Y G L par c hc ∗ Env d i ix O W fp qP
        ∗ (OutFree d i Y G L par (c + 2) -∗ Env d i ix O W fp qP -∗ wpT d i kk Q)) ⊢ wpT d i (waitOut i Y L c hc >>= fun _ => kk) Q := by
  unfold waitOut Leaving Env Owed
  simp only [Prog.lift, Prog.bind_op, Prog.bind_ret]
  iintro ⟨HFl, ⟨Hp, #Hmw, %W', %hW', HO⟩, HK⟩
  iapply (wp_waitLocalO EC 𝒱₀ (VT d i) none none (N := (chunk i Y c hc).view.dmaCredit) rfl) $$ [HFl HO]
  · isplitl [HFl]; · iexact HFl
    isplitl [HO]; · iexact HO
    iapply (MayWaits.elim (SemLoc.dma L.semO.sem)); iexact Hmw
  iintro ⟨⟨HY, Hg⟩, Hs, HO⟩
  iapply HK $$ [Hg HY Hs] [Hp HO]
  · unfold OutFree
    isplitl [Hg]; · iexact Hg
    isplitl [Hs] <;> iassumption
  · isplitl [Hp]; · iexact Hp
    isplitr; · imodintro; iexact Hmw
    iexists (insert (SemLoc.dma L.semO.sem, (none : HIx 1)) W')
    isplitr
    · ipureintro; exact fun p hp => (Finset.mem_insert.mp hp).elim (fun e => .inr (congrArg Prod.snd e)) (hW' p)
    iexact HO

/-- The result's chunks are the array's, permuted. -/
def IsResult (d : Dev nD) (i : grid0.Coords) (X Y : Memref sig .scVector .hbm S8388608 .f32) (p : S1024.Idx → BitVec 32)
    (fX : Buf (Elt F) (X.view.loc (VT d i))) (G : Buf (Elt F) (Y.view.loc (VT d i))) : Prop :=
  ∀ c (hc : c < 16), (chunk i Y c hc).view.read (Elt F) G = permuted p ((chunk i X c hc).view.read (Elt F) fX)

/-- The loop makes the arrived chunk ready to leave. -/
theorem wp_compute (hr : InRange (ix.view.read (Elt F) fp)) (hG : IsResult d i X Y (ix.view.read (Elt F) fp) fX G) (c : Nat) (hc : c < 16) :
    iprop(Arrived d i X fX qX L c hc ∗ OutFree d i Y G L par c ∗ Env d i ix O W fp qP
        ∗ (InFree d i X fX qX L -∗ Ready d i Y G L par c hc -∗ Env d i ix O W fp qP -∗ wpT d i kk Q)) ⊢ wpT d i (loop i ix L >>= fun _ => kk) Q := by
  unfold Arrived OutFree Env
  iintro ⟨⟨⟨%f, %hf, Hf⟩, Hs, HX⟩, ⟨Hg, Ht, HY⟩, ⟨Hp, Hmw, HO⟩, HK⟩
  iapply (wp_loop d i ix L fp hr f kk Q)
  isplitl [Hp]; · iexact Hp
  isplitl [Hf]; · iexact Hf
  isplitl [Hg]; · iexact Hg
  iintro ⟨Hp, Hf, %g, %hg, Hg⟩
  iapply HK $$ [Hf Hs HX] [Hg Ht HY] [Hp Hmw HO]
  · unfold InFree
    isplitl [Hf]; · iexists f; iexact Hf
    isplitl [Hs] <;> iassumption
  · unfold Ready
    isplitl [Hg]
    · iexists g
      isplitr
      · ipureintro; rw [hg, hf, hG c hc]
      · iexact Hg
    isplitl [Ht] <;> iassumption
  · isplitl [Hp]; · iexact Hp
    isplitl [Hmw] <;> iassumption

end

end Cert.Proof.Prog
-- ==== Proof.Task.lean ====
/-
  A lane's chunks one after the other, the pairs of middle chunks, and the whole task of a vector subcore: what it takes
  and what it brings back.
-/
module

public import proofs.«01_k».proof.Proof.Steps

@[expose] public section

noncomputable section

namespace Cert.Proof.Prog

open Cert.KernelIdeal Cert.KernelIdeal.Facts₀ Cert.KernelIdeal.Facts
open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable {d : Dev nD} {i : grid0.Coords}
variable {X Y : Memref sig .scVector .hbm S8388608 .f32} {ix : Memref sig .scVector .vmem S1024 .i32}
variable {O : CellTallies nD τ sig (HIx 1)} {W : Waits sig (HIx 1)}
variable {fX : Buf (Elt F) (X.view.loc (VT d i))} {G : Buf (Elt F) (Y.view.loc (VT d i))} {fp : Buf (Elt F) (ix.view.loc (VT d i))}
variable {qX qP : PosShare TreeShare} {L : Lane} {par : Nat}
variable {β : Type} {kk : TP F i β} {Q : β → sProp (MM F)}

/-- A lane between two chunks: chunk `c` leaving, chunk `c + 2` arriving. -/
def Mid (d : Dev nD) (i : grid0.Coords) (X Y : Memref sig .scVector .hbm S8388608 .f32) (fX : Buf (Elt F) (X.view.loc (VT d i)))
    (G : Buf (Elt F) (Y.view.loc (VT d i))) (qX : PosShare TreeShare) (L : Lane) (par c : Nat) (hc : c + 2 < 16) : sProp (MM F) :=
  iprop(Leaving d i Y G L par c (by omega) ∗ Arriving d i X fX qX L (c + 2) hc)

/-- The first chunk of a lane. -/
theorem wp_firstChunk (hr : InRange (ix.view.read (Elt F) fp)) (hG : IsResult d i X Y (ix.view.read (Elt F) fp) fX G)
    (c : Nat) (hc : c + 2 < 16) (hp : c % 2 = par) :
    iprop(Arriving d i X fX qX L c (by omega) ∗ OutFree d i Y G L par c ∗ Env d i ix O W fp qP
        ∗ (Mid d i X Y fX G qX L par c hc -∗ Env d i ix O W fp qP -∗ wpT d i kk Q))
      ⊢ wpT d i (firstChunk i X Y ix L c hc >>= fun _ => kk) Q := by
  unfold firstChunk
  simp only [bind_assoc]
  iintro ⟨HA, HL, HE, HK⟩
  iapply (wp_waitIn c _)
  isplitl [HA]; · iexact HA
  isplitl [HE]; · iexact HE
  iintro HA HE
  iapply (wp_compute (Y := Y) (G := G) (par := par) hr hG c (by omega))
  isplitl [HA]; · iexact HA
  isplitl [HL]; · iexact HL
  isplitl [HE]; · iexact HE
  iintro HA HL HE
  iapply (wp_startOut (G := G) (par := par) c _ hp)
  isplitl [HL]; · iexact HL
  iintro HL
  iapply (wp_startIn (c + 2) hc)
  isplitl [HA]; · iexact HA
  iintro HA
  iapply HK $$ [HL HA] [HE]
  · unfold Mid; isplitl [HL] <;> iassumption
  · iexact HE

/-- A middle one. -/
theorem wp_midChunk (hr : InRange (ix.view.read (Elt F) fp)) (hG : IsResult d i X Y (ix.view.read (Elt F) fp) fX G)
    (c : Nat) (hc : c + 4 < 16) (hp : c % 2 = par) :
    iprop(Mid d i X Y fX G qX L par c (by omega) ∗ Env d i ix O W fp qP
        ∗ (Mid d i X Y fX G qX L par (c + 2) (by omega) -∗ Env d i ix O W fp qP -∗ wpT d i kk Q))
      ⊢ wpT d i (midChunk i X Y ix L c hc >>= fun _ => kk) Q := by
  unfold midChunk
  simp only [bind_assoc]
  unfold Mid
  iintro ⟨⟨HL, HA⟩, HE, HK⟩
  iapply (wp_waitIn (c + 2) _)
  isplitl [HA]; · iexact HA
  isplitl [HE]; · iexact HE
  iintro HA HE
  iapply (wp_waitOut (G := G) (par := par) c _)
  isplitl [HL]; · iexact HL
  isplitl [HE]; · iexact HE
  iintro HL HE
  iapply (wp_compute (Y := Y) (G := G) (par := par) hr hG (c + 2) (by omega))
  isplitl [HA]; · iexact HA
  isplitl [HL]; · iexact HL
  isplitl [HE]; · iexact HE
  iintro HA HL HE
  iapply (wp_startOut (G := G) (par := par) (c + 2) _ (by omega))
  isplitl [HL]; · iexact HL
  iintro HL
  iapply (wp_startIn (c + 4) hc)
  isplitl [HA]; · iexact HA
  iintro HA
  iapply HK $$ [HL HA] [HE]
  · isplitl [HL] <;> iassumption
  · iexact HE

/-- The last one. -/
theorem wp_lastChunk (hr : InRange (ix.view.read (Elt F) fp)) (hG : IsResult d i X Y (ix.view.read (Elt F) fp) fX G)
    (c : Nat) (hc : c + 2 < 16) (hp : c % 2 = par) :
    iprop(Mid d i X Y fX G qX L par c hc ∗ Env d i ix O W fp qP
        ∗ (InFree d i X fX qX L -∗ Leaving d i Y G L par (c + 2) hc -∗ Env d i ix O W fp qP -∗ wpT d i kk Q))
      ⊢ wpT d i (lastChunk i X Y ix L c hc >>= fun _ => kk) Q := by
  unfold lastChunk
  simp only [bind_assoc]
  unfold Mid
  iintro ⟨⟨HL, HA⟩, HE, HK⟩
  iapply (wp_waitIn (c + 2) _)
  isplitl [HA]; · iexact HA
  isplitl [HE]; · iexact HE
  iintro HA HE
  iapply (wp_waitOut (G := G) (par := par) c _)
  isplitl [HL]; · iexact HL
  isplitl [HE]; · iexact HE
  iintro HL HE
  iapply (wp_compute (Y := Y) (G := G) (par := par) hr hG (c + 2) (by omega))
  isplitl [HA]; · iexact HA
  isplitl [HL]; · iexact HL
  isplitl [HE]; · iexact HE
  iintro HA HL HE
  iapply (wp_startOut (G := G) (par := par) (c + 2) _ (by omega))
  isplitl [HL]; · iexact HL
  iintro HL
  iapply HK $$ [HA] [HL] [HE]
  · iexact HA
  · iexact HL
  · iexact HE

variable {A B : Lane} {qA qB : PosShare TreeShare}

/-- The pairs of middle chunks take both lanes from their first chunks to chunks `2n` and `2n + 1`. -/
theorem wp_pairs (hr : InRange (ix.view.read (Elt F) fp)) (hG : IsResult d i X Y (ix.view.read (Elt F) fp) fX G) :
    ∀ (n : Nat) (h : n ≤ 6) {β : Type} (kk : TP F i β) (Q : β → sProp (MM F)),
    iprop(Mid d i X Y fX G qA A 0 0 (by omega) ∗ Mid d i X Y fX G qB B 1 1 (by omega) ∗ Env d i ix O W fp qP
        ∗ (Mid d i X Y fX G qA A 0 (2 * n) (by omega) -∗ Mid d i X Y fX G qB B 1 (2 * n + 1) (by omega) -∗ Env d i ix O W fp qP -∗ wpT d i kk Q))
      ⊢ wpT d i (pairs i X Y ix A B n h >>= fun _ => kk) Q
  | 0, h, _, kk, Q => by
    unfold pairs
    rw [pure_bind]
    iintro ⟨HA, HB, HE, HK⟩
    iapply HK $$ [HA] [HB] [HE]
    · iexact HA
    · iexact HB
    · iexact HE
  | n + 1, h, _, kk, Q => by
    unfold pairs
    simp only [bind_assoc]
    iintro ⟨HA, HB, HE, HK⟩
    iapply (wp_pairs hr hG n _ _ Q)
    isplitl [HA]; · iexact HA
    isplitl [HB]; · iexact HB
    isplitl [HE]; · iexact HE
    iintro HA HB HE
    iapply (wp_midChunk (par := 0) hr hG (2 * n) _ (by omega))
    isplitl [HA]; · iexact HA
    isplitl [HE]; · iexact HE
    iintro HA HE
    iapply (wp_midChunk (par := 1) hr hG (2 * n + 1) _ (by omega))
    isplitl [HB]; · iexact HB
    isplitl [HE]; · iexact HE
    iintro HB HE
    iapply HK $$ [HA] [HB] [HE]
    · iexact HA
    · iexact HB
    · iexact HE

/-- The task of a vector subcore: from read shares of the array and of the permutation, its elements of the result, its
    buffers and its semaphores at zero, it brings all of them back, its elements of the result permuted. -/
theorem wp_task {Pm : Memref sig .scVector .hbm S1024 .i32} {hPm : Pm.IsWhole} {hix : ix.IsWhole} {sem : DmaSems sig S_}
    (fP : Buf (Elt F) (Pm.view.loc (VT d i)))
    (hr : InRange (Pm.view.read (Elt F) fP)) (hG : IsResult d i X Y (Pm.view.read (Elt F) fP) fX G) :
    iprop(has d i Pm qP fP ∗ (∃ f, has d i ix fullShare f) ∗ semVal (VT d i, .dma sem.sem) 0
        ∗ InFree d i X fX qA A ∗ OutFree d i Y G A 0 0 ∗ InFree d i X fX qB B ∗ OutFree d i Y G B 1 1
        ∗ □ MayWaits (VT d i) (none : HIx 1) O ∗ owes (VT d i) O W)
      ⊢ wpT d i (task i X Y Pm hPm ix hix A B sem) fun _ =>
        iprop(has d i Pm qP fP ∗ (∃ f, has d i ix fullShare f) ∗ semVal (VT d i, .dma sem.sem) 0
          ∗ InFree d i X fX qA A ∗ OutFree d i Y G A 0 16 ∗ InFree d i X fX qB B ∗ OutFree d i Y G B 1 17
          ∗ Owed d i O W) := by
  rw [← bind_pure_unit (x := task i X Y Pm hPm ix hix A B sem)]
  unfold task
  simp only [bind_assoc]
  rw [show (Prog.lift (TpuEff.enqueueDma Pm (.here ix) (.dma sem.sem) hPm.wordExact hix.wordExact ⟨Or.inl rfl, trivial⟩) : TP F i PUnit)
      = .op (.enqueueDma Pm (.here ix) (.dma sem.sem) hPm.wordExact hix.wordExact ⟨Or.inl rfl, trivial⟩) .ret from rfl,
    show (Prog.lift (TpuEff.waitDma2 sem.sem Pm ix hPm.wordExact hix.wordExact) : TP F i PUnit)
      = .op (.waitDma2 sem.sem Pm ix hPm.wordExact hix.wordExact) .ret from rfl]
  simp only [Prog.bind_op, Prog.bind_ret]
  iintro ⟨HP, ⟨%f, Hix⟩, Hs, HA, HLA, HB, HLB, #Hmw, HO⟩
  iapply (wp_dmaLocal EC 𝒱₀ (VT d i) none (src := Pm) (dst := ix) (Sd := ix.view.set) (q := qP) (fs := fP) (fd := f) none
    ix.view.dmaCredit rfl (View.dmaCredit_pos _ (Shape.numel_pos pos_perm)) (Finset.Subset.refl _)) $$ [HP Hix Hs]
  · isplitl [HP]; · iexact HP
    isplitl [Hix] <;> iassumption
  iintro HFl
  iapply (wp_waitLocalO EC 𝒱₀ (VT d i) none none (N := ix.view.dmaCredit) rfl) $$ [HFl HO]
  · isplitl [HFl]; · iexact HFl
    isplitl [HO]; · iexact HO
    iapply (MayWaits.elim (SemLoc.dma sem.sem)); iexact Hmw
  iintro ⟨⟨Hix, HP⟩, Hs, HO⟩
  generalize hfp : ix.view.write (Elt F) f (ReadAs.same.apply (Pm.view.read (Elt F) fP)) Finset.univ = fp
  have e : ix.view.read (Elt F) fp = Pm.view.read (Elt F) fP := by rw [← hfp]; exact View.read_write_univ _ _
  rw [← e] at hr hG
  ihave HE : Env d i ix O W fp fullShare $$ [Hix HO]
  · unfold Env Owed
    isplitl [Hix]; · iexact Hix
    isplitr; · imodintro; iexact Hmw
    iexists (insert (SemLoc.dma sem.sem, (none : HIx 1)) W)
    isplitr
    · ipureintro; exact fun p hp => (Finset.mem_insert.mp hp).elim (fun e => .inr (congrArg Prod.snd e)) .inl
    iexact HO
  iapply (wp_startIn 0 _)
  isplitl [HA]; · iexact HA
  iintro HA
  iapply (wp_startIn 1 _)
  isplitl [HB]; · iexact HB
  iintro HB
  iapply (wp_firstChunk (par := 0) hr hG 0 _ rfl)
  isplitl [HA]; · iexact HA
  isplitl [HLA]; · iexact HLA
  isplitl [HE]; · iexact HE
  iintro HA HE
  iapply (wp_firstChunk (par := 1) hr hG 1 _ rfl)
  isplitl [HB]; · iexact HB
  isplitl [HLB]; · iexact HLB
  isplitl [HE]; · iexact HE
  iintro HB HE
  iapply (wp_pairs hr hG 6 _ _ _)
  isplitl [HA]; · iexact HA
  isplitl [HB]; · iexact HB
  isplitl [HE]; · iexact HE
  iintro HA HB HE
  iapply (wp_lastChunk (par := 0) hr hG 12 _ rfl)
  isplitl [HA]; · iexact HA
  isplitl [HE]; · iexact HE
  iintro HA HLA HE
  iapply (wp_lastChunk (par := 1) hr hG 13 _ rfl)
  isplitl [HB]; · iexact HB
  isplitl [HE]; · iexact HE
  iintro HB HLB HE
  iapply (wp_waitOut 14 _)
  isplitl [HLA]; · iexact HLA
  isplitl [HE]; · iexact HE
  iintro HLA HE
  iapply (wp_waitOut 15 _)
  isplitl [HLB]; · iexact HLB
  isplitl [HE]; · iexact HE
  iintro HLB HE
  rw [wpT, Prog.pure_eq_ret, wp_ret]; imodintro
  unfold Env
  icases HE with ⟨Hix, -, HO⟩
  isplitl [HP]; · iexact HP
  isplitl [Hix]; · iexists fp; iexact Hix
  isplitl [Hs]; · iexact Hs
  isplitl [HA]; · iexact HA
  isplitl [HLA]; · iexact HLA
  isplitl [HB]; · iexact HB
  isplitl [HLB]; · iexact HLB
  iexact HO

end Cert.Proof.Prog
-- ==== Proof.Regions.lean ====
/-
  How the arrays are dealt to the subcores: each subcore's lanes write their own elements of the result, which together
  are all of it, and each lane reads under a share of the array.
-/
module

public import proofs.«01_k».proof.Proof.Steps

@[expose] public section

noncomputable section

namespace Cert.Proof.Prog

open Cert.KernelIdeal Cert.KernelIdeal.Facts₀ Cert.KernelIdeal.Facts
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type}

/-- The flat array, the permutation and the result as a vector subcore names them. -/
abbrev xV : Memref sig .scVector .hbm S8388608 .f32 := Memref.whole main_v0_scv
abbrev pV : Memref sig .scVector .hbm S1024 .i32 := Memref.whole main_arg1_scv
abbrev yV : Memref sig .scVector .hbm S8388608 .f32 := Memref.whole main_v1_scv

/-- The same three, and the two arrays at the problem's shape, as the device's memory names them. -/
abbrev aLoc (d : Dev nD) : Loc nD τ sig := (SparseCore.T d).loc main_arg0
abbrev pLoc (d : Dev nD) : Loc nD τ sig := (SparseCore.T d).loc main_arg1
abbrev xLoc (d : Dev nD) : Loc nD τ sig := (SparseCore.T d).loc main_v0
abbrev yLoc (d : Dev nD) : Loc nD τ sig := (SparseCore.T d).loc main_v1
abbrev rLoc (d : Dev nD) : Loc nD τ sig := (SparseCore.T d).loc main_v2

/-- The grid point of core `c`, subcore `s`. -/
def coords (c : Fin 2) (s : Fin 16) : grid0.Coords :=
  fun | 0 => c | 1 => s | ⟨_ + 2, h⟩ => absurd h (Nat.not_lt.2 (Nat.le_add_left _ _))

/-! ## The result's elements -/

/-- An element is a lane's when the subcore's block holds it, in a chunk of the lane's parity. -/
theorem mem_laneSet (i : grid0.Coords) (par : Nat) (j : S8388608.Idx) :
    j ∈ laneSet i yV par ↔ (j 0).val / 262144 = 2 * (i 1).val + (i 0).val ∧ (j 0).val / 16384 % 2 = par := by
  constructor
  · intro h
    obtain ⟨c, hc, hp, hm⟩ := exists_of_mem_laneSet i yV h
    obtain ⟨x, -, rfl⟩ := Finset.mem_map.mp hm
    have e := chunkRect_emb i c hc x
    have hx : (x 0).val < 16384 := (x 0).isLt
    have e' : (((chunk i yV c hc).view.emb x : S8388608.Idx) 0).val = chunkOff i c + (x 0).val := e
    rw [e']; unfold chunkOff
    omega
  · rintro ⟨hb, hp⟩
    have hc : (j 0).val / 16384 % 16 < 16 := Nat.mod_lt _ (by omega)
    refine chunk_subset i yV hc (by omega) ?_
    refine Finset.mem_map.mpr ⟨ptC ((j 0).val % 16384), Finset.mem_univ _, ?_⟩
    have e := chunkRect_emb i _ hc (ptC ((j 0).val % 16384))
    have hx : ((ptC ((j 0).val % 16384)) 0).val = (j 0).val % 16384 % 16384 := rfl
    have e' : (((chunk i yV _ hc).view.emb (ptC ((j 0).val % 16384)) : S8388608.Idx) 0).val = (j 0).val := by
      refine Eq.trans e ?_
      rw [hx]; unfold chunkOff
      omega
    exact (eq_ptA e').trans (eq_ptA (x := j) rfl).symm

/-- The elements of a lane, of a subcore, of a core. -/
abbrev laneOf (c : Fin 2) (s : Fin 16) (p : Fin 2) : Finset S8388608.Idx := laneSet (coords c s) yV p.val
abbrev tileSet (c : Fin 2) (s : Fin 16) : Finset S8388608.Idx := Finset.univ.biUnion (laneOf c s)
abbrev coreSet (c : Fin 2) : Finset S8388608.Idx := Finset.univ.biUnion (tileSet c)

theorem mem_laneOf (c : Fin 2) (s : Fin 16) (p : Fin 2) (j : S8388608.Idx) :
    j ∈ laneOf c s p ↔ (j 0).val / 262144 = 2 * s.val + c.val ∧ (j 0).val / 16384 % 2 = p.val := mem_laneSet _ _ _

theorem mem_tileSet {c : Fin 2} {s : Fin 16} {j : S8388608.Idx} (h : j ∈ tileSet c s) : (j 0).val / 262144 = 2 * s.val + c.val := by
  obtain ⟨p, -, hp⟩ := Finset.mem_biUnion.mp h
  exact ((mem_laneOf c s p j).mp hp).1

theorem mem_coreSet {c : Fin 2} {j : S8388608.Idx} (h : j ∈ coreSet c) : (j 0).val / 262144 % 2 = c.val := by
  obtain ⟨s, -, hs⟩ := Finset.mem_biUnion.mp h
  have := mem_tileSet hs; have := c.isLt
  omega

theorem lanes_disjoint (c : Fin 2) (s : Fin 16) :
    ∀ p ∈ (Finset.univ : Finset (Fin 2)), ∀ p' ∈ (Finset.univ : Finset (Fin 2)), p ≠ p' → Disjoint (laneOf c s p) (laneOf c s p') :=
  fun p _ p' _ h => Finset.disjoint_left.mpr fun j hj hj' =>
    h (Fin.ext (((mem_laneOf c s p j).mp hj).2.symm.trans ((mem_laneOf c s p' j).mp hj').2))

theorem tiles_disjoint (c : Fin 2) :
    ∀ s ∈ (Finset.univ : Finset (Fin 16)), ∀ s' ∈ (Finset.univ : Finset (Fin 16)), s ≠ s' → Disjoint (tileSet c s) (tileSet c s') :=
  fun s _ s' _ h => Finset.disjoint_left.mpr fun j hj hj' => h (Fin.ext (by
    have := mem_tileSet hj; have := mem_tileSet hj'; omega))

theorem cores_disjoint :
    ∀ c ∈ (Finset.univ : Finset (Fin 2)), ∀ c' ∈ (Finset.univ : Finset (Fin 2)), c ≠ c' → Disjoint (coreSet c) (coreSet c') :=
  fun c _ c' _ h => Finset.disjoint_left.mpr fun j hj hj' => h (Fin.ext ((mem_coreSet hj).symm.trans (mem_coreSet hj')))

/-- Every element of the result is some lane's. -/
theorem cores_cover : (Finset.univ : Finset (Fin 2)).biUnion coreSet = (Finset.univ : Finset S8388608.Idx) := by
  refine Finset.eq_univ_iff_forall.mpr fun j => ?_
  have hj : (j 0).val < 8388608 := (j 0).isLt
  refine Finset.mem_biUnion.mpr ⟨⟨(j 0).val / 262144 % 2, by omega⟩, Finset.mem_univ _, ?_⟩
  refine Finset.mem_biUnion.mpr ⟨⟨(j 0).val / 262144 / 2, by omega⟩, Finset.mem_univ _, ?_⟩
  refine Finset.mem_biUnion.mpr ⟨⟨(j 0).val / 16384 % 2, by omega⟩, Finset.mem_univ _, ?_⟩
  exact (mem_laneOf _ _ _ j).mpr ⟨by show _ = 2 * ((j 0).val / 262144 / 2) + (j 0).val / 262144 % 2; omega, rfl⟩

/-! ## The shares -/

def coreShare (c : Fin 2) : PosShare TreeShare := Transfers.dealOf fullShare Finset.univ c
def tileShare (c : Fin 2) (s : Fin 16) : PosShare TreeShare := Transfers.dealOf (coreShare c) Finset.univ s
def laneShare (c : Fin 2) (s : Fin 16) (p : Fin 2) : PosShare TreeShare := Transfers.dealOf (tileShare c s) Finset.univ p

/-- What a subcore is handed: its share of the permutation, its lanes' shares of the array, its lanes' elements of the
    result at `g`. -/
def tileOf (d : Dev nD) (fP : Buf (Elt F) (pLoc d)) (fX : Buf (Elt F) (xLoc d)) (g : Buf (Elt F) (yLoc d)) (c : Fin 2) (s : Fin 16) :
    sProp (MM F) :=
  iprop((pLoc d ↦{tileShare c s} fP)
    ∗ ((xLoc d ↦{laneShare c s 0} fX) ∗ (xLoc d ↦{laneShare c s 1} fX))
    ∗ (yLoc d ↦[laneOf c s 0]{fullShare} g) ∗ (yLoc d ↦[laneOf c s 1]{fullShare} g))

theorem bigSep_two (Φ : Fin 2 → sProp (MM F)) : bigSep Finset.univ Φ = iprop(Φ 0 ∗ Φ 1) := by
  rw [show (Finset.univ : Finset (Fin 2)) = {0, 1} by decide, SparseCore.bigSep_insert' (by decide), bigSep_singleton]

/-- The permutation whole is every subcore's share of it; -/
theorem perm_dealt (d : Dev nD) (fP : Buf (Elt F) (pLoc d)) :
    (pLoc d ↦{fullShare} fP : sProp (MM F))
      = bigSep Finset.univ fun c : Fin 2 => bigSep Finset.univ fun s : Fin 16 => pLoc d ↦{tileShare c s} fP := by
  rw [Transfers.pointsTo_deal (Finset.univ : Finset (Fin 2)) Finset.univ_nonempty fullShare]
  refine bigSep_congr fun c _ => ?_
  exact Transfers.pointsTo_deal (Finset.univ : Finset (Fin 16)) Finset.univ_nonempty (coreShare c)

/-- the array whole is every lane's share of it; -/
theorem array_dealt (d : Dev nD) (fX : Buf (Elt F) (xLoc d)) :
    (xLoc d ↦{fullShare} fX : sProp (MM F))
      = bigSep Finset.univ fun c : Fin 2 => bigSep Finset.univ fun s : Fin 16 =>
          iprop((xLoc d ↦{laneShare c s 0} fX) ∗ (xLoc d ↦{laneShare c s 1} fX)) := by
  rw [Transfers.pointsTo_deal (Finset.univ : Finset (Fin 2)) Finset.univ_nonempty fullShare]
  refine bigSep_congr fun c _ => ?_
  refine (Transfers.pointsTo_deal (Finset.univ : Finset (Fin 16)) Finset.univ_nonempty (coreShare c)).trans ?_
  refine bigSep_congr fun s _ => ?_
  exact (Transfers.pointsTo_deal (Finset.univ : Finset (Fin 2)) Finset.univ_nonempty (tileShare c s)).trans (bigSep_two _)

/-- the result whole is every lane's elements of it. -/
theorem result_dealt (d : Dev nD) (g : Buf (Elt F) (yLoc d)) :
    (yLoc d ↦{fullShare} g : sProp (MM F))
      = bigSep Finset.univ fun c : Fin 2 => bigSep Finset.univ fun s : Fin 16 =>
          iprop((yLoc d ↦[laneOf c s 0]{fullShare} g) ∗ (yLoc d ↦[laneOf c s 1]{fullShare} g)) := by
  have e : (yLoc d ↦{fullShare} g : sProp (MM F)) = yLoc d ↦[(Finset.univ : Finset (Fin 2)).biUnion coreSet]{fullShare} g := by
    rw [cores_cover]
  rw [e, pointsTo_biUnion (Finset.univ : Finset (Fin 2)) (ℓ := yLoc d) coreSet cores_disjoint]
  refine bigSep_congr fun c _ => ?_
  refine (pointsTo_biUnion (Finset.univ : Finset (Fin 16)) (ℓ := yLoc d) (tileSet c) (tiles_disjoint c)).trans ?_
  refine bigSep_congr fun s _ => ?_
  exact (pointsTo_biUnion (Finset.univ : Finset (Fin 2)) (ℓ := yLoc d) (laneOf c s) (lanes_disjoint c s)).trans (bigSep_two _)

/-- The three arrays whole are what the subcores are handed. -/
theorem all_dealt (d : Dev nD) (fP : Buf (Elt F) (pLoc d)) (fX : Buf (Elt F) (xLoc d)) (g : Buf (Elt F) (yLoc d)) :
    (bigSep Finset.univ fun c : Fin 2 => bigSep Finset.univ fun s : Fin 16 => tileOf d fP fX g c s)
      = iprop((pLoc d ↦{fullShare} fP) ∗ (xLoc d ↦{fullShare} fX) ∗ (yLoc d ↦{fullShare} g) : sProp (MM F)) := by
  rw [perm_dealt, array_dealt, result_dealt, ← bigSep_sep', ← bigSep_sep']
  refine bigSep_congr fun c _ => ?_
  rw [← bigSep_sep', ← bigSep_sep']
  rfl

/-! ## The whole permuted array is, chunk by chunk, the permuted chunks -/

theorem isResult [FloatOps F] (d : Dev nD) (i : grid0.Coords) (p : S1024.Idx → BitVec 32) (hp : InRange p) (fX : Buf (Elt F) (xLoc d)) :
    IsResult d i xV yV p fX (permutedAll p fX) := by
  intro c hc
  funext x
  have hx : (x 0).val < 16384 := (x 0).isLt
  have hq := hp (ptP ((x 0).val % 1024))
  have e : (((chunkRect i c hc).emb x : S8388608.Idx) 0).val = chunkOff i c + (x 0).val := chunkRect_emb i c hc x
  show fX (ptA (source p ((chunkRect i c hc).emb x 0).val)) = fX ((chunkRect i c hc).emb (ptC (source p (x 0).val)))
  refine congrArg fX (eq_ptA ?_).symm
  rw [chunkRect_emb, e]
  have hmod : (chunkOff i c + (x 0).val) % 1024 = (x 0).val % 1024 := by unfold chunkOff; omega
  have hl : ((ptC (source p (x 0).val)) 0).val = source p (x 0).val % 16384 := rfl
  rw [hl]; unfold source
  rw [hmod]; unfold chunkOff
  omega

end Cert.Proof.Prog
-- ==== Proof.Subcore.lean ====
/-
  One vector subcore's run, from what the launch hands it to what it hands back.
-/
module

public import proofs.«01_k».proof.Proof.Task
public import proofs.«01_k».proof.Proof.Regions

@[expose] public section

noncomputable section

namespace Cert.Proof.Prog

open Cert.KernelIdeal Cert.KernelIdeal.Facts₀ Cert.KernelIdeal.Facts
open Idealize.ShloMosaic Idealize.ShloMosaic.Transfers
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

/-! ## The subcore's own semaphores and buffers -/

/-- The task's five semaphores, by number. -/
abbrev csem (k : Nat) (hk : k < 5 := by decide) : DmaSem sig := ⟨k, hk⟩
abbrev dcell (d : Dev nD) (i : grid0.Coords) (k : Fin 5) : GSem nD τ sig := (VT d i, .dma (csem k.val k.isLt))

theorem dcell_mem (d : Dev nD) (i : grid0.Coords) (k : Fin 5) : dcell d i k ∈ ownCells (VT d i) :=
  mem_ownCells.mpr ⟨rfl, (show ∀ s : DmaSem sig, (SemLoc.dma s : SemLoc sig).isScoped .scVector = true by decide) _⟩

theorem dcell_inj (d : Dev nD) (i : grid0.Coords) : Function.Injective (dcell d i) := fun a b h => by
  have := congrArg (fun g : GSem nD τ sig => g.2) h
  simp only [SemLoc.dma.injEq, Fin.mk.injEq] at this; exact Fin.ext this

/-- The five at zero. -/
def sems0 (d : Dev nD) (i : grid0.Coords) : sProp (MM F) :=
  iprop(semVal (VT d i, .dma cc0_scratch5.sem) 0 ∗ semVal (VT d i, .dma cc0_scratch6.sem) 0 ∗ semVal (VT d i, .dma cc0_scratch7.sem) 0
    ∗ semVal (VT d i, .dma cc0_scratch8.sem) 0 ∗ semVal (VT d i, .dma cc0_scoped0.sem) 0)

/-- The subcore's semaphores at zero are the task's five and the rest. -/
theorem ownSems0_eq (d : Dev nD) (i : grid0.Coords) :
    (ownSems0 (VT d i) : sProp (MM F))
      = iprop(sems0 d i ∗ bigSep (ownCells (VT d i) \ Finset.univ.image (dcell d i)) fun g => semVal g 0) := by
  unfold SparseCore.Cfg.ownSems0
  rw [SparseCore.bigSep_sdiff_split' (t := Finset.univ.image (dcell d i)) (Finset.image_subset_iff.mpr fun k _ => dcell_mem d i k),
    SparseCore.bigSep_image_of_injOn (fun a _ b _ h => dcell_inj d i h),
    show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- The task's five buffers, by number, among what a vector subcore owns. -/
abbrev bufRef (k : Fin 5) : Ref sig .scVector :=
  match k with
  | 0 => cc0_scratch0
  | 1 => cc0_scratch1
  | 2 => cc0_scratch2
  | 3 => cc0_scratch3
  | 4 => cc0_scratch4

abbrev bufOf (i : grid0.Coords) (k : Fin 5) : DevRef τ sig := (Proc.scVector (cV i) (jV i)).devRef (bufRef k)

theorem bufOf_inj (i : grid0.Coords) : Function.Injective (bufOf i) := fun _ _ h =>
  (show Function.Injective bufRef by decide) (Proc.devRef_injective _ h)

theorem bufOf_mem (i : grid0.Coords) (k : Fin 5) : bufOf i k ∈ ownRefs (τ := τ) (.scVector (cV i) (jV i)) := by
  refine SparseCore.Cfg.mem_ownRefs_of_owner (p := Proc.scVector (cV i) (jV i)) ?_
  match k with
  | 0 => rfl
  | 1 => rfl
  | 2 => rfl
  | 3 => rfl
  | 4 => rfl

/-- The five at any contents. -/
def bufs (d : Dev nD) (i : grid0.Coords) : sProp (MM F) :=
  iprop((∃ f, has d i (Memref.whole cc0_scratch0) fullShare f) ∗ (∃ f, has d i (Memref.whole cc0_scratch1) fullShare f)
    ∗ (∃ f, has d i (Memref.whole cc0_scratch2) fullShare f) ∗ (∃ f, has d i (Memref.whole cc0_scratch3) fullShare f)
    ∗ (∃ f, has d i (Memref.whole cc0_scratch4) fullShare f))

/-- Holding a whole buffer is holding all its elements. -/
theorem has_whole (d : Dev nD) (i : grid0.Coords) (b : Ref sig .scVector) (q : PosShare TreeShare) (f : Buf (Elt F) ((VT d i).loc b)) :
    (has d i (Memref.whole b) q f : sProp (MM F)) = (VT d i).loc b ↦{q} f := by
  unfold has
  rw [show (Memref.whole b).view.set = Finset.univ from View.set_whole _]

/-- Holding some contents, likewise. -/
theorem some_whole (d : Dev nD) (i : grid0.Coords) (b : Ref sig .scVector) :
    (iprop(∃ f, has d i (Memref.whole b) fullShare f) : sProp (MM F))
      = iprop(∃ f, ((d, (Proc.scVector (cV i) (jV i)).devRef b) : Loc nD τ sig) ↦{fullShare} f) := by
  simp only [has_whole]

theorem sep_eq {A A' B B' : sProp (MM F)} (h : A = A') (h' : B = B') : iprop(A ∗ B) = iprop(A' ∗ B') := by rw [h, h']

/-- The subcore's buffers are the task's five and the rest. -/
theorem ownBufs_eq (d : Dev nD) (i : grid0.Coords) :
    (ownBufs (VT d i) : sProp (MM F))
      = iprop(bufs d i ∗ bigSep (ownRefs (τ := τ) (.scVector (cV i) (jV i)) \ Finset.univ.image (bufOf i))
          fun b => iprop(∃ f, ((d, b) : Loc nD τ sig) ↦{fullShare} f)) := by
  unfold SparseCore.Cfg.ownBufs bufs
  rw [SparseCore.bigSep_sdiff_split' (s := ownRefs (τ := τ) (VT d i).2) (t := Finset.univ.image (bufOf i))
      (Finset.image_subset_iff.mpr fun k _ => bufOf_mem i k),
    SparseCore.bigSep_image_of_injOn (fun a _ b _ h => bufOf_inj i h),
    show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  exact sep_eq (sep_eq (some_whole d i cc0_scratch0).symm (sep_eq (some_whole d i cc0_scratch1).symm (sep_eq (some_whole d i cc0_scratch2).symm
    (sep_eq (some_whole d i cc0_scratch3).symm (some_whole d i cc0_scratch4).symm)))) rfl

/-! ## The run -/

variable [FloatOps F]

/-- The two lanes. -/
abbrev laneA : Lane :=
  ⟨Memref.whole cc0_scratch1, Memref.isWhole_whole _, Memref.whole cc0_scratch3, Memref.isWhole_whole _, cc0_scratch5, cc0_scratch7⟩
abbrev laneB : Lane :=
  ⟨Memref.whole cc0_scratch2, Memref.isWhole_whole _, Memref.whole cc0_scratch4, Memref.isWhole_whole _, cc0_scratch6, cc0_scratch8⟩

/-- The task at the kernel's own buffers. -/
abbrev taskAt (i : grid0.Coords) : TP F i PUnit :=
  task i xV yV pV (Memref.isWhole_whole _) (Memref.whole cc0_scratch0) (Memref.isWhole_whole _) laneA laneB cc0_scoped0

section

variable (d : Dev nD) (c : Fin 2) (s : Fin 16)
variable (fP : Buf (Elt F) (pLoc d)) (fX : Buf (Elt F) (xLoc d)) (g : Buf (Elt F) (yLoc d))

/-- Reading the permutation whole is reading its buffer. -/
theorem read_perm : (pV).view.read (Elt F) fP = fP := rfl

/-- From its shares and its elements of the result, the subcore brings them back with the result's elements those of the
    permuted array. -/
theorem wp_tile (hF : (K (F := F)).Facts) (hp : InRange fP) (O : CellTallies nD τ sig (HIx 1)) (W : Waits sig (HIx 1)) (hO : ∀ g, O g none = 0) :
    iprop(levAts (K (F := F)).L (K (F := F)).lev ∗ emp ∗ tileOf d fP fX g c s
        ∗ scopedBufs (VT d (coords c s)) ∗ scopedSems0 (VT d (coords c s)) ∗ owes (VT d (coords c s)) O W)
      ⊢ wpT d (coords c s) (taskAt (F := F) (coords c s)) fun _ =>
          iprop(tileOf d fP fX (permutedAll fP fX) c s ∗ scopedBufs (VT d (coords c s)) ∗ scopedSems0 (VT d (coords c s))
            ∗ ∃ W', ⌜∀ p ∈ W', p ∈ W ∨ p.2 = none⌝ ∗ owes (VT d (coords c s)) O W') := by
  rw [(K (F := F)).scopedBufs_V hF d (cV (coords c s)) (jV (coords c s)), SparseCore.Cfg.scopedSems0_V (Val := Elt F) d (cV (coords c s)) (jV (coords c s)),
    ownSems0_eq, ownBufs_eq]
  unfold tileOf bufs sems0
  iintro ⟨#Hlv, -, ⟨HP, ⟨HXA, HXB⟩, HYA, HYB⟩, ⟨⟨H0, H1, H2, H3, H4⟩, Hbufs⟩, ⟨⟨S5, S6, S7, S8, S9⟩, Hsems⟩, HO⟩
  iapply (wp_wand_r frame _ _)
  isplitl [HP HXA HXB HYA HYB H0 H1 H2 H3 H4 S5 S6 S7 S8 S9 HO]
  · iapply (wp_task (d := d) (i := coords c s) (X := xV) (Y := yV) (G := permutedAll fP fX) (qP := tileShare c s) (qA := laneShare c s 0)
      (qB := laneShare c s 1) (O := O) (W := W) (Pm := pV) fP hp (isResult d (coords c s) fP hp fX))
    unfold InFree OutFree dstPts srcPts
    isplitl [HP]; · rw [has_whole]; iexact HP
    isplitl [H0]; · iexact H0
    isplitl [S9]; · iexact S9
    isplitl [H1 S5 HXA]
    · isplitl [H1]; · iexact H1
      isplitl [S5]; · iexact S5
      iexact HXA
    isplitl [H3 S7 HYA]
    · isplitl [H3]; · iexact H3
      isplitl [S7]; · iexact S7
      iexists g
      isplitr; · ipureintro; exact wrote_start _ _
      iexact HYA
    isplitl [H2 S6 HXB]
    · isplitl [H2]; · iexact H2
      isplitl [S6]; · iexact S6
      iexact HXB
    isplitl [H4 S8 HYB]
    · isplitl [H4]; · iexact H4
      isplitl [S8]; · iexact S8
      iexists g
      isplitr; · ipureintro; exact wrote_start _ _
      iexact HYB
    isplitr
    · imodintro
      iapply (MayWaits.intro fun sm => (K (F := F)).mayWait_none sm hO); iexact Hlv
    iexact HO
  unfold InFree OutFree dstPts srcPts Owed
  rw [has_whole]
  iintro %u ⟨HP, H0, S9, ⟨H1, S5, HXA⟩, ⟨H3, S7, %hA, %hwA, HYA⟩, ⟨H2, S6, HXB⟩, ⟨H4, S8, %hB, %hwB, HYB⟩, HO⟩
  isplitl [HP HXA HXB HYA HYB]
  · isplitl [HP]; · iexact HP
    isplitl [HXA HXB]
    · isplitl [HXA]; · iexact HXA
      iexact HXB
    isplitl [HYA]
    · iapply (Entails.of_eq (pointsTo_congr (hwA.done (by omega)))); iexact HYA
    · iapply (Entails.of_eq (pointsTo_congr (hwB.done (by omega)))); iexact HYB
  isplitl [H0 H1 H2 H3 H4 Hbufs]
  · isplitl [H0 H1 H2 H3 H4]
    · isplitl [H0]; · iexact H0
      isplitl [H1]; · iexact H1
      isplitl [H2]; · iexact H2
      isplitl [H3]; · iexact H3
      iexact H4
    iexact Hbufs
  isplitl [S5 S6 S7 S8 S9 Hsems]
  · isplitl [S5 S6 S7 S8 S9]
    · isplitl [S5]; · iexact S5
      isplitl [S6]; · iexact S6
      isplitl [S7]; · iexact S7
      isplitl [S8]; · iexact S8
      iexact S9
    iexact Hsems
  iexact HO

end

end Cert.Proof.Prog
-- ==== Proof.Launch.lean ====
/-
  The whole program's run: the array flattened, the kernel launched on every vector subcore, the result brought back to
  the problem's shape.
-/
module

public import proofs.«01_k».proof.Proof.Subcore

@[expose] public section

noncomputable section

namespace Cert.Proof.Prog

open Cert.KernelIdeal Cert.KernelIdeal.Facts₀ Cert.KernelIdeal.Facts
open Idealize.ShloMosaic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The values -/

/-- The array, flattened. -/
def flat (d : Dev nD) : Buf (Elt F) (xLoc d) := shapeCast S8388608 (m (aLoc d)) shapeCasts_S4x2048x1024_S8388608
/-- The kernel's result, flat, -/
def flatResult (d : Dev nD) : Buf (Elt F) (yLoc d) := permutedAll (m (pLoc d)) (flat m d)
/-- and at the problem's shape. -/
def result (d : Dev nD) : Buf (Elt F) (rLoc d) := shapeCast S4x2048x1024 (flatResult m d) shapeCasts_S8388608_S4x2048x1024

/-- What the run asks of the launch memory. -/
def PreOK : Prop := ∀ d : Dev nD, InRange (m (pLoc d))

/-! ## What the launch carries -/

theorem nCore_zero : (K (F := F)).nCore 0 = 2 := rfl
theorem nSub_zero : (K (F := F)).nSub 0 = 16 := rfl

/-- A subcore's shares before its run, and after it. -/
abbrev tileIn (d : Dev nD) (c : Fin 2) (s : Fin 16) : sProp (MM F) := tileOf d (m (pLoc d)) (flat m d) (m (yLoc d)) c s
abbrev tileOut (d : Dev nD) (c : Fin 2) (s : Fin 16) : sProp (MM F) := tileOf d (m (pLoc d)) (flat m d) (flatResult m d) c s

/-- Each core is handed its subcores' shares and hands them back. -/
def P : (K (F := F)).Pay (nD := nD) (Val := Elt F) (Name := ℕ) (U := UU) where
  st := fun q d c => match q with
    | 0 => bigSep Finset.univ fun s : Fin ((K (F := F)).nSub 0) => tileIn m d (Fin.cast nCore_zero c) (Fin.cast nSub_zero s)
  dn := fun q d c => match q with
    | 0 => bigSep Finset.univ fun s : Fin ((K (F := F)).nSub 0) => tileOut m d (Fin.cast nCore_zero c) (Fin.cast nSub_zero s)
  go := fun q d c s => match q with | 0 => tileIn m d (Fin.cast nCore_zero c) (Fin.cast nSub_zero s)
  td := fun q d c s => match q with | 0 => tileOut m d (Fin.cast nCore_zero c) (Fin.cast nSub_zero s)
  x := fun _ _ => iprop(emp)

instance tileOf_storable (d : Dev nD) (fP : Buf (Elt F) (pLoc d)) (fX : Buf (Elt F) (xLoc d)) (g : Buf (Elt F) (yLoc d)) (c : Fin 2) (s : Fin 16) :
    BI.Storable (upEmb : UEmb _ (MM F)) (tileOf d fP fX g c s) := by
  unfold tileOf; infer_instance

instance P_storable : (P (F := F) m).IsStorable where
  st q d c := match q with
    | 0 => (inferInstance : BI.Storable (upEmb : UEmb _ (MM F))
        (bigSep Finset.univ fun s : Fin ((K (F := F)).nSub 0) => tileIn m d (Fin.cast nCore_zero c) (Fin.cast nSub_zero s)))
  dn q d c := match q with
    | 0 => (inferInstance : BI.Storable (upEmb : UEmb _ (MM F))
        (bigSep Finset.univ fun s : Fin ((K (F := F)).nSub 0) => tileOut m d (Fin.cast nCore_zero c) (Fin.cast nSub_zero s)))
  go q d c s := match q with | 0 => tileOf_storable d _ _ _ _ _
  td q d c s := match q with | 0 => tileOf_storable d _ _ _ _ _

/-! ## The subcores' runs, and a core's -/

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What a vector subcore runs is the task at its grid point. -/
theorem defs₀_vector (c : Fin τ.nSC) (s : Fin τ.nSub) :
    defs₀ (F := F) (.scVector c s) 0 () = SparseCore.onTile hcore0 hsub0 (fun c s => taskAt (F := F) (coords c s)) ⟨⟩ c s := by
  have e : (fun (c : Fin (grid0.bound 0)) (s : Fin (grid0.bound 1)) => taskAt (F := F) (coords c s)) = fun c s =>
      cc0__permute_sc (coords c s) xV (Memref.isWhole_whole _) pV (Memref.isWhole_whole _) yV (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) cc0_scratch5 cc0_scratch6 cc0_scratch7 cc0_scratch8 cc0_scoped0 :=
    funext fun c => funext fun s => (kernel_eq ..).symm
  rw [e]; rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (wp_tile d (Fin.cast nCore_zero c) (Fin.cast nSub_zero i) (m (pLoc d)) (flat m d) (m (yLoc d)) hF (hpre d) O W hO).trans
    (wp_mono frame _ _ fun _ => obl_post)

theorem vecSplit : (K (F := F)).VecSplit' (P m) 0 := by
  intro d c
  show (bigSep Finset.univ fun s : Fin ((K (F := F)).nSub 0) => tileIn m d (Fin.cast nCore_zero c) (Fin.cast nSub_zero s))
    ⊢ |={Set.univ}=> iprop(
      (bigSep Finset.univ fun s : Fin ((K (F := F)).nSub 0) => tileIn m d (Fin.cast nCore_zero c) (Fin.cast nSub_zero s))
      ∗ ((bigSep Finset.univ fun s : Fin ((K (F := F)).nSub 0) => tileOut m d (Fin.cast nCore_zero c) (Fin.cast nSub_zero s))
        -∗ (bigSep Finset.univ fun s : Fin ((K (F := F)).nSub 0) => tileOut m d (Fin.cast nCore_zero c) (Fin.cast nSub_zero s))))
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The TensorCore's run -/

abbrev a' : DevRef τ sig := Proc.devRef .tc (main_arg0 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg0 main_v0 (rfl : (.f32 : EltTy) = .f32) shapeCasts_S4x2048x1024_S8388608
abbrev opOut : HloOp τ sig (Elt F) := StableHlo.reshape main_v1 main_v2 (rfl : (.f32 : EltTy) = .f32) shapeCasts_S8388608_S4x2048x1024

omit [FloatOps F] in
theorem unscopedBufs_eq (d : Dev nD) (W : (b : Ref sig .tc) → Buf (Elt F) ((d.tc : Thread nD τ).loc b)) :
    (unscopedBufs d W : sProp (MM F)) = iprop((aLoc d ↦{fullShare} W main_arg0) ∗ (pLoc d ↦{fullShare} W main_arg1)
      ∗ (xLoc d ↦{fullShare} W main_v0) ∗ (yLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The memory's contents, and those with the flat result written. -/
def V0 (d : Dev nD) : Valuation τ sig (Elt F) := fun b => m (d, b)
def V1 (d : Dev nD) : Valuation τ sig (Elt F) := Function.update (V0 m d) y' (flatResult m d)

omit [FloatOps F] in
theorem held_in (d : Dev nD) (W : Valuation τ sig (Elt F)) :
    (held (T d) {a', x'} W : sProp (MM F)) = iprop((aLoc d ↦{fullShare} W a') ∗ xLoc d ↦{fullShare} W x') := by
  unfold held
  rw [SparseCore.bigSep_insert' (by decide), bigSep_singleton]
omit [FloatOps F] in
theorem held_out (d : Dev nD) (W : Valuation τ sig (Elt F)) :
    (held (T d) {y', r'} W : sProp (MM F)) = iprop((yLoc d ↦{fullShare} W y') ∗ rLoc d ↦{fullShare} W r') := by
  unfold held
  rw [SparseCore.bigSep_insert' (by decide), bigSep_singleton]

/-- Flattening leaves the array and writes the flat one. -/
theorem held_flat (d : Dev nD) :
    (held (T d) {a', x'} ((opIn (F := F)).result (V0 m d)) : sProp (MM F)) = iprop((aLoc d ↦{fullShare} m (aLoc d)) ∗ xLoc d ↦{fullShare} flat m d) := by
  rw [held_in, (opIn (F := F)).result_of_not_mem (V0 m d) (b := a') (show a' ∉ ({x'} : Finset (DevRef τ sig)) by decide)]
  rw [show (opIn (F := F)).result (V0 m d) x' = flat m d from StableHlo.reshape_result _ _ _ _ _ _ _]
  rfl

/-- Bringing back leaves the flat result and writes the result. -/
theorem held_result (d : Dev nD) :
    (held (T d) {y', r'} ((opOut (F := F)).result (V1 m d)) : sProp (MM F))
      = iprop((yLoc d ↦{fullShare} flatResult m d) ∗ rLoc d ↦{fullShare} result m d) := by
  have e : V1 m d y' = flatResult m d := Function.update_self _ _ _
  rw [held_out, (opOut (F := F)).result_of_not_mem (V1 m d) (b := y') (show y' ∉ ({r'} : Finset (DevRef τ sig)) by decide), e]
  rw [show (opOut (F := F)).result (V1 m d) r' = result m d from
    (StableHlo.reshape_result _ _ _ _ _ _ _).trans (congrArg (fun g => shapeCast S4x2048x1024 g shapeCasts_S8388608_S4x2048x1024) e)]

/-- What the call takes for the cores, and what it hands back. -/
theorem st0_eq (d : Dev nD) : (bigSep Finset.univ fun c : Fin ((K (F := F)).nCore 0) => (P m).st 0 d c)
    = iprop((pLoc d ↦{fullShare} m (pLoc d)) ∗ (xLoc d ↦{fullShare} flat m d) ∗ (yLoc d ↦{fullShare} m (yLoc d))) :=
  all_dealt d (m (pLoc d)) (flat m d) (m (yLoc d))
theorem dn0_eq (d : Dev nD) : (bigSep Finset.univ fun c : Fin ((K (F := F)).nCore 0) => (P m).dn 0 d c)
    = iprop((pLoc d ↦{fullShare} m (pLoc d)) ∗ (xLoc d ↦{fullShare} flat m d) ∗ (yLoc d ↦{fullShare} flatResult m d)) :=
  all_dealt d (m (pLoc d)) (flat m d) (flatResult m d)

/-- What the TensorCore ends with: the two arguments as they were, the result. -/
abbrev FIN (d : Dev nD) : sProp (MM F) :=
  iprop((aLoc d ↦{fullShare} m (aLoc d)) ∗ (pLoc d ↦{fullShare} m (pLoc d)) ∗ rLoc d ↦{fullShare} result m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hp, Hx, Hy, Hr⟩, Hts, -⟩, -⟩
  iapply (wp_hlo_within 𝒱 (SparseCore.T d) none Set.univ (op := opIn) (S := {a', x'}) (Finset.Subset.refl _) (V := V0 m d)) $$ [Hb Ha Hx]
  · isplitl [Hb]; · iexact Hb
    rw [held_in]
    isplitl [Ha]; · iexact Ha
    iexact Hx
  iintro ⟨Hb, Hheld⟩
  ihave Hh := (Entails.of_eq (held_flat m d)) $$ Hheld
  icases Hh with ⟨Ha, Hx⟩
  rw [wp_ret]; imodintro
  iapply ((K (F := F)).wp_run (D (F := F)) 𝒱 (EH := EH) (P := P m) κ d 0) $$ [Hst Ha Hp Hx Hy Hr Hb Hts]
  isplitr; · iexact Hctx
  isplitl [Hst]; · iexact Hst
  isplitl [Hp Hx Hy]
  · rw [st0_eq]
    isplitl [Hp]; · iexact Hp
    isplitl [Hx]; · iexact Hx
    iexact Hy
  iintro ⟨Hst, Hdn⟩
  ihave Hdn' := (Entails.of_eq (dn0_eq m d)) $$ Hdn
  icases Hdn' with ⟨Hp, -, Hy⟩
  iapply (wp_hlo_within 𝒱 (SparseCore.T d) none Set.univ (op := opOut) (S := {y', r'}) (Finset.Subset.refl _) (V := V1 m d)) $$ [Hb Hy Hr]
  · isplitl [Hb]; · iexact Hb
    rw [held_out, show V1 m d y' = flatResult m d from Function.update_self _ _ _,
      show V1 m d r' = m (rLoc d) from Function.update_of_ne (show r' ≠ y' by decide) _ _]
    isplitl [Hy]; · iexact Hy
    iexact Hr
  iintro ⟨Hb, Hheld⟩
  ihave Hh := (Entails.of_eq (held_result m d)) $$ Hheld
  icases Hh with ⟨-, Hr⟩
  rw [wp_ret]; imodintro; imodintro
  isplitl [Hst]; · iexact Hst
  isplitr [Hb Hts]
  · isplitl [Ha]; · iexact Ha
    isplitl [Hp]; · iexact Hp
    iexact Hr
  isplitl [Hb] <;> iassumption

/-! ## The run -/

def fq (d : Dev nD) (s' : Phys nD τ sig (Elt F)) : Prop :=
  s'.mem.mem (aLoc d) = m (aLoc d) ∧ s'.mem.mem (pLoc d) = m (pLoc d) ∧ s'.mem.mem (rLoc d) = result m d

/-- A buffer held whole is what the memory holds. -/
theorem mem_of_held {s' : Phys nD τ sig (Elt F)} {ℓ : Loc nD τ sig} {f : Buf (Elt F) ℓ} {R : sProp (MM F)} :
    iprop((ℓ ↦{fullShare} f) ∗ R ∗ SI s') ⊢ iprop(⌜s'.mem.mem ℓ = f⌝ ∗ R ∗ SI s') := by
  iintro ⟨Hf, HR, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr; · ipureintro; exact funext fun i => h i (Finset.mem_univ i)
  isplitl [HR] <;> iassumption

theorem hfin (d : Dev nD) (s' : Phys nD τ sig (Elt F)) : iprop(FIN m d ∗ SI s') ⊢ (⌜fq m d s'⌝ : sProp (MM F)) := by
  iintro ⟨⟨Ha, Hp, Hr⟩, HSI⟩
  ihave H := (mem_of_held (R := iprop((pLoc d ↦{fullShare} m (pLoc d)) ∗ rLoc d ↦{fullShare} result m d))) $$ [Ha Hp Hr HSI]
  · isplitl [Ha]; · iexact Ha
    isplitl [Hp Hr]
    · isplitl [Hp]; · iexact Hp
      iexact Hr
    iexact HSI
  icases H with ⟨%h1, ⟨Hp, Hr⟩, HSI⟩
  ihave H := (mem_of_held (R := iprop(rLoc d ↦{fullShare} result m d))) $$ [Hp Hr HSI]
  · isplitl [Hp]; · iexact Hp
    isplitl [Hr] <;> iassumption
  icases H with ⟨%h2, Hr, HSI⟩
  ihave H := (mem_of_held (R := iprop(emp))) $$ [Hr HSI]
  · isplitl [Hr]; · iexact Hr
    isplitr; · iempintro
    iexact HSI
  icases H with ⟨%h3, -, -⟩
  ipureintro; exact ⟨h1, h2, h3⟩

/-- Every run ends with the arguments as they were, the result the permuted array's, every semaphore at zero. -/
def QC : PUnit × MemSt nD τ sig (Elt F) → Prop := fun r =>
  (∀ c : Dev nD, r.2.mem (aLoc c) = m (aLoc c) ∧ r.2.mem (pLoc c) = m (pLoc c) ∧ r.2.mem (rLoc c) = result m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Prog
-- ==== Proof.Reference.lean ====
/-
  What the reference computes: every element taken from its row, at the column the permutation names.
-/
module

public import proofs.«01_k».proof.Proof.Values
public import proofs.«01_k».proof.Proof.Gen.ReferenceIdeal.Run
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.SL.Sem
open Cert.Proof.Prog (InRange ptP eq_ptP)

variable {F : FTy → Type} [FloatOps F] {α : Type}

/-- An element's place after its last coordinate is read through the permutation. -/
def takenAt (p : S1024.Idx → BitVec 32) (j : S4x2048x1024.Idx) : S4x2048x1024.Idx :=
  fun | 0 => j 0 | 1 => j 1 | 2 => ⟨(p (ptP (j 2).val)).toNat % 1024, Nat.mod_lt _ (by decide)⟩

/-- The array with its last axis read through the permutation. -/
def taken (p : S1024.Idx → BitVec 32) (a : S4x2048x1024.Idx → α) : S4x2048x1024.Idx → α := fun j => a (takenAt p j)

/-! ## The reference's own term, in parts -/

variable (p : IVec S1024 32) (a : S4x2048x1024.Idx → F .f32)

/-- The columns it starts from, negative ones wrapped; -/
def starts : IVec S1024x1 32 :=
  broadcastInDim S1024x1 ![0] bcast_S1024_S1024x1_0
    (select (cmpi .slt p (broadcastInDim S1024 ![] bcast_S_S1024 (constantI S_ 32 0#32)))
      (addi p (broadcastInDim S1024 ![] bcast_S_S1024 (constantI S_ 32 1024#32))) p)

/-- which of them lie in the row; -/
def inside : IVec S1024 1 :=
  Host.reduce IntOp.andi
    (andi (cmpi .sge (starts p) (broadcastInDim S1024x1 ![] bcast_S_S1024x1 (constantI S_ 32 0#32)))
      (cmpi .sle (starts p) (broadcastInDim S1024x1 ![0, 1] bcast_S1x1_S1024x1_0_1 (broadcastInDim S1x1 ![1] bcast_S1_S1x1_1 (constantI S1 32 1023#32)))))
    (constantI S_ 1 1#1) reducesTo_S1024x1_S1024_d1 h_S_

/-- what it returns: the gathered elements where they do, a NaN elsewhere. -/
def value : S4x2048x1024.Idx → F .f32 :=
  select (broadcastInDim S4x2048x1024 ![2] bcast_S1024_S4x2048x1024_2 (inside p))
    (Host.gather gather_S4x2048x1024_S1024x1_S4x2048x1024_01_2_n_n_2_1_420481 a (starts p))
    (broadcastInDim S4x2048x1024 ![] bcast_S_S4x2048x1024 (constant S_ .f32 0x7FC00000#32))

variable {p}

/-! ## At a permutation in range -/

/-- A word below 1024 is not negative, at least zero and at most 1023, and is its own signed value. -/
theorem word_facts {v : BitVec 32} (h : v.toNat < 1024) :
    IntOp.cmpi .slt v 0#32 = 0#1 ∧ IntOp.cmpi .sge v 0#32 = 1#1 ∧ IntOp.cmpi .sle v 1023#32 = 1#1 ∧ v.toInt.toNat = v.toNat := by
  have e : v.toInt = v.toNat := by rw [BitVec.toInt_eq_toNat_cond, if_pos (by omega)]
  refine ⟨?_, ?_, ?_, by rw [e]; rfl⟩
  · simp only [IntOp.cmpi, BitVec.slt_eq_decide, e]
    rw [decide_eq_false (by simp)]; rfl
  · simp only [IntOp.cmpi, BitVec.sle_eq_decide, e]
    rw [decide_eq_true (by simp)]; rfl
  · simp only [IntOp.cmpi, BitVec.sle_eq_decide, e]
    rw [show (1023#32).toInt = 1023 by decide, decide_eq_true (by omega)]; rfl

/-- The starts are the permutation's entries. -/
theorem starts_apply (hp : InRange p) (k : S1024x1.Idx) : starts p k = p (ptP (k 0).val) := by
  have hk : (k 0).val < 1024 := (k 0).isLt
  unfold starts
  rw [broadcastInDim_apply _ _ _ k (ptP (k 0).val) (by
    intro b
    obtain rfl : b = 0 := Subsingleton.elim _ _
    show (k 0).val % 1024 = if (1024 : Nat) = 1 then 0 else (k 0).val
    rw [if_neg (by decide)]; omega)]
  show Scalar.select (IntOp.cmpi .slt (p _) 0#32) _ (p _) = _
  rw [(word_facts (hp _)).1]; rfl

/-- All of them lie in the row. -/
theorem inside_apply (hp : InRange p) (k : S1024.Idx) : inside p k = 1#1 := by
  refine Host.reduce_andi_one _ _ _ _ _ rfl fun i => ?_
  show IntOp.andi (IntOp.cmpi .sge (starts p i) 0#32) (IntOp.cmpi .sle (starts p i) 1023#32) = 1#1
  rw [starts_apply hp, (word_facts (hp _)).2.1, (word_facts (hp _)).2.2.1]; rfl

abbrev dims : GatherDims S4x2048x1024 S1024x1 S4x2048x1024 := gather_S4x2048x1024_S1024x1_S4x2048x1024_01_2_n_n_2_1_420481

/-- Where the gather reads result element `j`. -/
theorem gather_at (hp : InRange p) (j : S4x2048x1024.Idx) :
    dims.operandIdx j (starts p) = takenAt p j := by
  funext b
  refine Fin.ext ?_
  show GatherDims.start _ j (starts p) b + GatherDims.batchCoord _ j b + GatherDims.offCoord _ j b = _
  rw [GatherDims.batchCoord_eq_zero _ _ _ List.not_mem_nil]
  match b with
  | 0 =>
    unfold GatherDims.start
    rw [dif_neg (show 0 ∉ dims.startIndexMap from (by decide : (0 : Fin 3) ∉ [(2 : Fin 3)]))]
    exact Nat.zero_add _
  | 1 =>
    unfold GatherDims.start
    rw [dif_neg (show 1 ∉ dims.startIndexMap from (by decide : (1 : Fin 3) ∉ [(2 : Fin 3)]))]
    exact Nat.zero_add _
  | 2 =>
    rw [GatherDims.offCoord_eq_zero _ _ _ (fun h => ((GatherDims.mem_sKept _ _).mp h).1 (List.mem_singleton.mpr rfl))]
    unfold GatherDims.start
    rw [dif_pos (show 2 ∈ dims.startIndexMap from (by decide : (2 : Fin 3) ∈ [(2 : Fin 3)])), starts_apply hp, (word_facts (hp _)).2.2.2]
    show min (p (ptP (j 2).val)).toNat (1024 - 1) + 0 + 0 = (p (ptP (j 2).val)).toNat % 1024
    have := hp (ptP (j 2).val)
    omega

/-- The reference takes every element from its row, at the column the permutation names. -/
theorem value_eq (hp : InRange p) : value p a = taken p a := by
  funext j
  show Scalar.select (inside p _) (a (GatherDims.operandIdx _ j (starts p))) _ = a (takenAt p j)
  rw [inside_apply hp, gather_at hp]; rfl

/-- The reference's run ends with that, the arguments as they were. -/
theorem run (m : (ℓ : Loc nD τ sig) → Buf (Elt F) ℓ) (ρ : Dev nD → PrngReg)
    (hp : ∀ c : Dev nD, InRange (m ((c.tc : Thread nD τ).loc main_arg1))) :
    θ_run (defs (F := F)) (onTc (τ := τ) (main (F := F))) ⟨m, fun _ => 0, ρ⟩ fun r => ∀ c : Dev nD,
      r.2.mem ((c.tc : Thread nD τ).loc main_v0) = taken (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := F)) _ _).mono (fun _ h c => ⟨(h c).1.trans (value_eq _ (hp c)), (h c).2⟩) (Cert.ReferenceIdeal.Value.run m ρ)

end Cert.Proof.Ref
-- ==== Proof.Equation.lean ====
/-
  The equation: the flat array permuted row by row and brought back to the problem's shape is the array with its last
  axis read through the permutation.
-/
module

public import proofs.«01_k».proof.Proof.Reference

@[expose] public section

noncomputable section

namespace Cert.Proof.Ref

open Idealize.ShloMosaic
open Cert.ReferenceIdeal (S4x2048x1024 S1024)
open Cert.KernelIdeal (S8388608)
open Cert.Proof.Prog (InRange ptP ptA eq_ptA source permutedAll)

variable {α : Type}

/-- An element's place in the flat array. -/
def place (j : S4x2048x1024.Idx) : Nat := (j 0).val * 2097152 + (j 1).val * 1024 + (j 2).val

theorem rowMajor_array (j : S4x2048x1024.Idx) : (S4x2048x1024.rowMajor j).val = place j := by
  rw [Shape.rowMajor_val_three]
  show ((j 0).val * 2048 + (j 1).val) * 1024 + (j 2).val = _
  unfold place; omega

theorem place_lt (j : S4x2048x1024.Idx) : place j < 8388608 := by
  have h0 : (j 0).val < 4 := (j 0).isLt
  have h1 : (j 1).val < 2048 := (j 1).isLt
  have h2 : (j 2).val < 1024 := (j 2).isLt
  unfold place; omega

theorem rowMajor_flat (n : Nat) (h : n < 8388608) : (S8388608.rowMajor (ptA n)).val = n := by
  rw [Shape.rowMajor_val_one]
  exact Nat.mod_eq_of_lt h

/-- Where the flat array's element at `j`'s place comes from is the place of `j` taken. -/
theorem source_place {p : S1024.Idx → BitVec 32} (hp : InRange p) (j : S4x2048x1024.Idx) : source p (place j) = place (takenAt p j) := by
  have h2 : (j 2).val < 1024 := (j 2).isLt
  have e : place j % 1024 = (j 2).val := by unfold place; omega
  have e' : place j / 1024 * 1024 = (j 0).val * 2097152 + (j 1).val * 1024 := by unfold place; omega
  have := hp (ptP (j 2).val)
  unfold source
  rw [e, e']
  show _ = (j 0).val * 2097152 + (j 1).val * 1024 + (p (ptP (j 2).val)).toNat % 1024
  omega

/-- The flat array permuted row by row, brought back to the shape of the problem, is the array taken. -/
theorem permuted_eq_taken {p : S1024.Idx → BitVec 32} (hp : InRange p) (a : S4x2048x1024.Idx → α)
    (h : S4x2048x1024.ShapeCasts S8388608) (h' : S8388608.ShapeCasts S4x2048x1024) :
    shapeCast S4x2048x1024 (permutedAll p (shapeCast S8388608 a h)) h' = taken p a := by
  funext j
  have hl := place_lt j
  rw [shapeCast_apply _ _ j (ptA (place j)) (by rw [rowMajor_flat _ hl, rowMajor_array])]
  show shapeCast S8388608 a h (ptA (source p (place j % 8388608))) = a (takenAt p j)
  rw [Nat.mod_eq_of_lt hl, source_place hp]
  exact shapeCast_apply _ _ _ (takenAt p j) (by rw [rowMajor_flat _ (place_lt _), rowMajor_array])

end Cert.Proof.Ref
-- ==== Proof.Precondition.lean ====
/-
  What the precondition says: every entry of the permutation names a column.
-/
module

public import proofs.«01_k».proof.Proof.Values
public import proofs.«01_k».proof.Proof.Gen.Pre_in_range
public import Idealize.ShloMosaic.Lib.ReduceAll

@[expose] public section

noncomputable section

namespace Cert.Proof.Pre

open Idealize.ShloMosaic Cert.Pre_in_range
open Cert.Proof.Prog (InRange)

/-- A word at least zero and below 1024 as a signed number is below 1024 as a natural one. -/
theorem lt_of_word {v : BitVec 32} (h0 : IntOp.cmpi .sge v 0#32 = 1#1) (h1 : IntOp.cmpi .slt v 1024#32 = 1#1) : v.toNat < 1024 := by
  have hb : ∀ b : Bool, BitVec.ofBool b = 1#1 → b = true := by decide
  simp only [IntOp.cmpi] at h0 h1
  have h0 := hb _ h0
  have h1 := hb _ h1
  simp only [BitVec.sle_eq_decide, BitVec.slt_eq_decide, decide_eq_true_eq, show (0#32).toInt = 0 by decide,
    show (1024#32).toInt = 1024 by decide, BitVec.toInt_eq_toNat_cond] at h0 h1
  have := v.isLt
  split at h0 <;> omega

theorem inRange [Facts] {F : FTy → Type} [FloatOps F] {a : FVec F S4x2048x1024 .f32} {p : IVec S1024 32}
    (h : fn a p = fun _ => 1#1) : InRange p := by
  intro x
  have e := congrFun h (Shape.Idx.first Facts.h_S_)
  haveI : Subsingleton S_.Idx := ⟨fun i j => funext fun k => k.elim0⟩
  have e := Host.reduce_andi_all _ _ _ _ _ e x
  have e := IntOp.andi_eq_one.1 e
  exact lt_of_word e.1 e.2

end Cert.Proof.Pre
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Equation
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The kernel over the machine's words: it terminates, its arguments as they were, every counter at zero. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (Prog.run_main (F := Bits) m ρ fun d => Pre.inRange (hpre d))

/-- The same of the kernel over the extended reals. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (Prog.run_main (F := Ideal) m ρ fun d => Pre.inRange (hpre d))

/-- The same of the reference, which has no semaphore at all. -/
theorem frame_reference : Cert.quiescent_ReferenceIdeal := fun m ρ _ =>
  (θ_run (Cert.ReferenceIdeal.defs (F := Ideal)) _ _).mono
    (fun r h => ⟨fun c => (h c).2, sem_eq_zero_of_no_sems rfl r.2⟩) (Cert.ReferenceIdeal.Value.run m ρ)

/-- Where the permutation's entries are columns, kernel and reference end with the same array: at every place the
    element of its row in the column that the permutation names. -/
theorem same_value : Cert.algebraic_KernelIdeal_ReferenceIdeal := fun m ρ m' ρ' hpre hm =>
  have hp : Prog.PreOK m := fun d => Pre.inRange (hpre d)
  ⟨fun c => Prog.result m c,
    (θ_run (Cert.KernelIdeal.defs (F := Ideal)) _ _).mono (fun _ h c => ⟨(h.1 c).2.2, (h.1 c).1, (h.1 c).2.1⟩)
      (Prog.run_main (F := Ideal) m ρ hp),
    (θ_run (Cert.ReferenceIdeal.defs (F := Ideal)) _ _).mono
      (fun _ h c => ⟨(h c).1.trans (by
        rw [(hm c).1, (hm c).2]
        exact (Ref.permuted_eq_taken (hp c) _ _ _).symm), (h c).2⟩)
      (Ref.run m' ρ' fun c => by rw [(hm c).2]; exact hp c)⟩

/-- All the claims. -/
theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, same_value⟩

end Cert.Proof

end
